-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 2048]⟩ ⟨2, ![2048, 2048]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 2048]⟩ ⟨2, ![4096, 4096]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S16x128 : Shape := ⟨2, ![16, 128]⟩
abbrev S8 : Shape := ⟨1, ![8]⟩
abbrev S2 : Shape := ⟨1, ![2]⟩
abbrev S16 : Shape := ⟨1, ![16]⟩
abbrev S1 : Shape := ⟨1, ![1]⟩
abbrev S_ : Shape := ⟨0, ![]⟩
abbrev S1024x1024 : Shape := ⟨2, ![1024, 1024]⟩
abbrev S256x1024 : Shape := ⟨2, ![256, 1024]⟩
abbrev S1x256x1024 : Shape := ⟨3, ![1, 256, 1024]⟩
abbrev S1x1x1 : Shape := ⟨3, ![1, 1, 1]⟩
abbrev S128 : Shape := ⟨1, ![128]⟩
abbrev S1x128 : Shape := ⟨2, ![1, 128]⟩
abbrev S1x1 : Shape := ⟨2, ![1, 1]⟩
abbrev S256x2048 : Shape := ⟨2, ![256, 2048]⟩

abbrev nBuf : Space → Nat
  | .hbm => 3
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .bf16⟩
  | .local _ .vmem, ⟨0, _⟩ => ⟨S2048x1024, .f32⟩
  | .local _ .vmem, ⟨1, _⟩ => ⟨S1024x2048, .f32⟩
  | .local _ .vmem, ⟨2, _⟩ => ⟨S2048x2048, .f32⟩
  | .local _ .vmem, ⟨3, _⟩ => ⟨S2048x2048, .bf16⟩
  | .local _ .vmem, ⟨4, _⟩ => ⟨S2048x2048, .i8⟩
  | .local _ .vmem, ⟨5, _⟩ => ⟨S2048x2048, .i8⟩
  | .local _ .vmem, ⟨6, _⟩ => ⟨S16x128, .f32⟩
  | .local _ .vmem, ⟨7, _⟩ => ⟨S16x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 1 82 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_42 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_41 : BitVec 32 := 2#32
  let v48 : BitVec 32 := Scalar.muli v2 c2_i32_41
  let v49 : BitVec 32 := Scalar.addi c0_i32_42 v48
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_43 : BitVec 32 := 1#32
  let v50 : BitVec 32 := Scalar.muli v6 c1_i32_43
  let v51 : BitVec 32 := Scalar.addi v49 v50
  v51.toNat
def k0_dev2 (d0 : Dev nD) : Nat :=
  let c0_i32_71 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_70 : BitVec 32 := 2#32
  let v87 : BitVec 32 := Scalar.muli v2 c2_i32_70
  let v88 : BitVec 32 := Scalar.addi c0_i32_71 v87
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_72 : BitVec 32 := 1#32
  let v89 : BitVec 32 := Scalar.muli v6 c1_i32_72
  let v90 : BitVec 32 := Scalar.addi v88 v89
  v90.toNat
def k0_dev3 (d0 : Dev nD) : Nat :=
  let c0_i32_80 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_79 : BitVec 32 := 2#32
  let v97 : BitVec 32 := Scalar.muli v2 c2_i32_79
  let v98 : BitVec 32 := Scalar.addi c0_i32_80 v97
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_81 : BitVec 32 := 1#32
  let v99 : BitVec 32 := Scalar.muli v6 c1_i32_81
  let v100 : BitVec 32 := Scalar.addi v98 v99
  v100.toNat
def k0_dev4 (d0 : Dev nD) : Nat :=
  let c0_i32_105 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_104 : BitVec 32 := 2#32
  let v136 : BitVec 32 := Scalar.muli v2 c2_i32_104
  let v137 : BitVec 32 := Scalar.addi c0_i32_105 v136
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_106 : BitVec 32 := 1#32
  let v138 : BitVec 32 := Scalar.muli v6 c1_i32_106
  let v139 : BitVec 32 := Scalar.addi v137 v138
  v139.toNat
def k0_dev5 (d0 : Dev nD) : Nat :=
  let c0_i32_114 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_113 : BitVec 32 := 2#32
  let v146 : BitVec 32 := Scalar.muli v2 c2_i32_113
  let v147 : BitVec 32 := Scalar.addi c0_i32_114 v146
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_115 : BitVec 32 := 1#32
  let v148 : BitVec 32 := Scalar.muli v6 c1_i32_115
  let v149 : BitVec 32 := Scalar.addi v147 v148
  v149.toNat
def k0_dev6 (d0 : Dev nD) : Nat :=
  let c0_i32_139 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_138 : BitVec 32 := 2#32
  let v185 : BitVec 32 := Scalar.muli v2 c2_i32_138
  let v186 : BitVec 32 := Scalar.addi c0_i32_139 v185
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_140 : BitVec 32 := 1#32
  let v187 : BitVec 32 := Scalar.muli v6 c1_i32_140
  let v188 : BitVec 32 := Scalar.addi v186 v187
  v188.toNat
def k0_dev7 (d0 : Dev nD) : Nat :=
  let c0_i32_148 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_147 : BitVec 32 := 2#32
  let v195 : BitVec 32 := Scalar.muli v2 c2_i32_147
  let v196 : BitVec 32 := Scalar.addi c0_i32_148 v195
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_149 : BitVec 32 := 1#32
  let v197 : BitVec 32 := Scalar.muli v6 c1_i32_149
  let v198 : BitVec 32 := Scalar.addi v196 v197
  v198.toNat
def k0_dev8 (d0 : Dev nD) : Nat :=
  let c0_i32_167 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_166 : BitVec 32 := 2#32
  let v228 : BitVec 32 := Scalar.muli v2 c2_i32_166
  let v229 : BitVec 32 := Scalar.addi c0_i32_167 v228
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_168 : BitVec 32 := 1#32
  let v230 : BitVec 32 := Scalar.muli v6 c1_i32_168
  let v231 : BitVec 32 := Scalar.addi v229 v230
  v231.toNat
def k0_dev9 (d0 : Dev nD) : Nat :=
  let c0_i32_176 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_175 : BitVec 32 := 2#32
  let v238 : BitVec 32 := Scalar.muli v2 c2_i32_175
  let v239 : BitVec 32 := Scalar.addi c0_i32_176 v238
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_177 : BitVec 32 := 1#32
  let v240 : BitVec 32 := Scalar.muli v6 c1_i32_177
  let v241 : BitVec 32 := Scalar.addi v239 v240
  v241.toNat
def k0_dev10 (d0 : Dev nD) : Nat :=
  let c0_i32_201 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_200 : BitVec 32 := 2#32
  let v277 : BitVec 32 := Scalar.muli v2 c2_i32_200
  let v278 : BitVec 32 := Scalar.addi c0_i32_201 v277
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_202 : BitVec 32 := 1#32
  let v279 : BitVec 32 := Scalar.muli v6 c1_i32_202
  let v280 : BitVec 32 := Scalar.addi v278 v279
  v280.toNat
def k0_dev11 (d0 : Dev nD) : Nat :=
  let c0_i32_210 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_209 : BitVec 32 := 2#32
  let v287 : BitVec 32 := Scalar.muli v2 c2_i32_209
  let v288 : BitVec 32 := Scalar.addi c0_i32_210 v287
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_211 : BitVec 32 := 1#32
  let v289 : BitVec 32 := Scalar.muli v6 c1_i32_211
  let v290 : BitVec 32 := Scalar.addi v288 v289
  v290.toNat
def k0_dev12 (d0 : Dev nD) : Nat :=
  let c0_i32_229 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_228 : BitVec 32 := 2#32
  let v320 : BitVec 32 := Scalar.muli v2 c2_i32_228
  let v321 : BitVec 32 := Scalar.addi c0_i32_229 v320
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_230 : BitVec 32 := 1#32
  let v322 : BitVec 32 := Scalar.muli v6 c1_i32_230
  let v323 : BitVec 32 := Scalar.addi v321 v322
  v323.toNat
def k0_dev13 (d0 : Dev nD) : Nat :=
  let c0_i32_238 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_237 : BitVec 32 := 2#32
  let v330 : BitVec 32 := Scalar.muli v2 c2_i32_237
  let v331 : BitVec 32 := Scalar.addi c0_i32_238 v330
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_239 : BitVec 32 := 1#32
  let v332 : BitVec 32 := Scalar.muli v6 c1_i32_239
  let v333 : BitVec 32 := Scalar.addi v331 v332
  v333.toNat
def k0_dev14 (d0 : Dev nD) : Nat :=
  let c0_i32_263 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_262 : BitVec 32 := 2#32
  let v369 : BitVec 32 := Scalar.muli v2 c2_i32_262
  let v370 : BitVec 32 := Scalar.addi c0_i32_263 v369
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_264 : BitVec 32 := 1#32
  let v371 : BitVec 32 := Scalar.muli v6 c1_i32_264
  let v372 : BitVec 32 := Scalar.addi v370 v371
  v372.toNat
def k0_dev15 (d0 : Dev nD) : Nat :=
  let c0_i32_272 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_271 : BitVec 32 := 2#32
  let v379 : BitVec 32 := Scalar.muli v2 c2_i32_271
  let v380 : BitVec 32 := Scalar.addi c0_i32_272 v379
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_273 : BitVec 32 := 1#32
  let v381 : BitVec 32 := Scalar.muli v6 c1_i32_273
  let v382 : BitVec 32 := Scalar.addi v380 v381
  v382.toNat
def k0_dev16 (d0 : Dev nD) : Nat :=
  let c0_i32_291 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_290 : BitVec 32 := 2#32
  let v412 : BitVec 32 := Scalar.muli v2 c2_i32_290
  let v413 : BitVec 32 := Scalar.addi c0_i32_291 v412
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_292 : BitVec 32 := 1#32
  let v414 : BitVec 32 := Scalar.muli v6 c1_i32_292
  let v415 : BitVec 32 := Scalar.addi v413 v414
  v415.toNat
def k0_dev17 (d0 : Dev nD) : Nat :=
  let c0_i32_300 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_299 : BitVec 32 := 2#32
  let v422 : BitVec 32 := Scalar.muli v2 c2_i32_299
  let v423 : BitVec 32 := Scalar.addi c0_i32_300 v422
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_301 : BitVec 32 := 1#32
  let v424 : BitVec 32 := Scalar.muli v6 c1_i32_301
  let v425 : BitVec 32 := Scalar.addi v423 v424
  v425.toNat
def k0_dev18 (d0 : Dev nD) : Nat :=
  let c0_i32_325 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_324 : BitVec 32 := 2#32
  let v461 : BitVec 32 := Scalar.muli v2 c2_i32_324
  let v462 : BitVec 32 := Scalar.addi c0_i32_325 v461
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_326 : BitVec 32 := 1#32
  let v463 : BitVec 32 := Scalar.muli v6 c1_i32_326
  let v464 : BitVec 32 := Scalar.addi v462 v463
  v464.toNat
def k0_dev19 (d0 : Dev nD) : Nat :=
  let c0_i32_334 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_333 : BitVec 32 := 2#32
  let v471 : BitVec 32 := Scalar.muli v2 c2_i32_333
  let v472 : BitVec 32 := Scalar.addi c0_i32_334 v471
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_335 : BitVec 32 := 1#32
  let v473 : BitVec 32 := Scalar.muli v6 c1_i32_335
  let v474 : BitVec 32 := Scalar.addi v472 v473
  v474.toNat
def k0_dev20 (d0 : Dev nD) : Nat :=
  let c0_i32_352 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_351 : BitVec 32 := 2#32
  let v504 : BitVec 32 := Scalar.muli v2 c2_i32_351
  let v505 : BitVec 32 := Scalar.addi c0_i32_352 v504
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_353 : BitVec 32 := 1#32
  let v506 : BitVec 32 := Scalar.muli v6 c1_i32_353
  let v507 : BitVec 32 := Scalar.addi v505 v506
  v507.toNat
def k0_dev21 (d0 : Dev nD) : Nat :=
  let c0_i32_361 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_360 : BitVec 32 := 2#32
  let v514 : BitVec 32 := Scalar.muli v2 c2_i32_360
  let v515 : BitVec 32 := Scalar.addi c0_i32_361 v514
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_362 : BitVec 32 := 1#32
  let v516 : BitVec 32 := Scalar.muli v6 c1_i32_362
  let v517 : BitVec 32 := Scalar.addi v515 v516
  v517.toNat
def k0_dev22 (d0 : Dev nD) : Nat :=
  let c0_i32_385 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_384 : BitVec 32 := 2#32
  let v553 : BitVec 32 := Scalar.muli v2 c2_i32_384
  let v554 : BitVec 32 := Scalar.addi c0_i32_385 v553
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_386 : BitVec 32 := 1#32
  let v555 : BitVec 32 := Scalar.muli v6 c1_i32_386
  let v556 : BitVec 32 := Scalar.addi v554 v555
  v556.toNat
def k0_dev23 (d0 : Dev nD) : Nat :=
  let c0_i32_394 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_393 : BitVec 32 := 2#32
  let v563 : BitVec 32 := Scalar.muli v2 c2_i32_393
  let v564 : BitVec 32 := Scalar.addi c0_i32_394 v563
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_395 : BitVec 32 := 1#32
  let v565 : BitVec 32 := Scalar.muli v6 c1_i32_395
  let v566 : BitVec 32 := Scalar.addi v564 v565
  v566.toNat
def k0_dev24 (d0 : Dev nD) : Nat :=
  let c0_i32_412 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_411 : BitVec 32 := 2#32
  let v596 : BitVec 32 := Scalar.muli v2 c2_i32_411
  let v597 : BitVec 32 := Scalar.addi c0_i32_412 v596
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_413 : BitVec 32 := 1#32
  let v598 : BitVec 32 := Scalar.muli v6 c1_i32_413
  let v599 : BitVec 32 := Scalar.addi v597 v598
  v599.toNat
def k0_dev25 (d0 : Dev nD) : Nat :=
  let c0_i32_421 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_420 : BitVec 32 := 2#32
  let v606 : BitVec 32 := Scalar.muli v2 c2_i32_420
  let v607 : BitVec 32 := Scalar.addi c0_i32_421 v606
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_422 : BitVec 32 := 1#32
  let v608 : BitVec 32 := Scalar.muli v6 c1_i32_422
  let v609 : BitVec 32 := Scalar.addi v607 v608
  v609.toNat
def k0_dev26 (d0 : Dev nD) : Nat :=
  let c0_i32_445 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_444 : BitVec 32 := 2#32
  let v645 : BitVec 32 := Scalar.muli v2 c2_i32_444
  let v646 : BitVec 32 := Scalar.addi c0_i32_445 v645
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_446 : BitVec 32 := 1#32
  let v647 : BitVec 32 := Scalar.muli v6 c1_i32_446
  let v648 : BitVec 32 := Scalar.addi v646 v647
  v648.toNat
def k0_dev27 (d0 : Dev nD) : Nat :=
  let c0_i32_454 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_453 : BitVec 32 := 2#32
  let v655 : BitVec 32 := Scalar.muli v2 c2_i32_453
  let v656 : BitVec 32 := Scalar.addi c0_i32_454 v655
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_455 : BitVec 32 := 1#32
  let v657 : BitVec 32 := Scalar.muli v6 c1_i32_455
  let v658 : BitVec 32 := Scalar.addi v656 v657
  v658.toNat
def k0_dev28 (d0 : Dev nD) : Nat :=
  let c0_i32_472 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_471 : BitVec 32 := 2#32
  let v688 : BitVec 32 := Scalar.muli v2 c2_i32_471
  let v689 : BitVec 32 := Scalar.addi c0_i32_472 v688
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_473 : BitVec 32 := 1#32
  let v690 : BitVec 32 := Scalar.muli v6 c1_i32_473
  let v691 : BitVec 32 := Scalar.addi v689 v690
  v691.toNat
def k0_dev29 (d0 : Dev nD) : Nat :=
  let c0_i32_481 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_480 : BitVec 32 := 2#32
  let v698 : BitVec 32 := Scalar.muli v2 c2_i32_480
  let v699 : BitVec 32 := Scalar.addi c0_i32_481 v698
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_482 : BitVec 32 := 1#32
  let v700 : BitVec 32 := Scalar.muli v6 c1_i32_482
  let v701 : BitVec 32 := Scalar.addi v699 v700
  v701.toNat
def k0_dev30 (d0 : Dev nD) : Nat :=
  let c0_i32_505 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_504 : BitVec 32 := 2#32
  let v737 : BitVec 32 := Scalar.muli v2 c2_i32_504
  let v738 : BitVec 32 := Scalar.addi c0_i32_505 v737
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_506 : BitVec 32 := 1#32
  let v739 : BitVec 32 := Scalar.muli v6 c1_i32_506
  let v740 : BitVec 32 := Scalar.addi v738 v739
  v740.toNat
def k0_dev31 (d0 : Dev nD) : Nat :=
  let c0_i32_514 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_513 : BitVec 32 := 2#32
  let v747 : BitVec 32 := Scalar.muli v2 c2_i32_513
  let v748 : BitVec 32 := Scalar.addi c0_i32_514 v747
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_515 : BitVec 32 := 1#32
  let v749 : BitVec 32 := Scalar.muli v6 c1_i32_515
  let v750 : BitVec 32 := Scalar.addi v748 v749
  v750.toNat
def k0_dev32 (d0 : Dev nD) : Nat :=
  let c0_i32_532 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_531 : BitVec 32 := 2#32
  let v780 : BitVec 32 := Scalar.muli v2 c2_i32_531
  let v781 : BitVec 32 := Scalar.addi c0_i32_532 v780
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_533 : BitVec 32 := 1#32
  let v782 : BitVec 32 := Scalar.muli v6 c1_i32_533
  let v783 : BitVec 32 := Scalar.addi v781 v782
  v783.toNat
def k0_dev33 (d0 : Dev nD) : Nat :=
  let c0_i32_541 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_540 : BitVec 32 := 2#32
  let v790 : BitVec 32 := Scalar.muli v2 c2_i32_540
  let v791 : BitVec 32 := Scalar.addi c0_i32_541 v790
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_542 : BitVec 32 := 1#32
  let v792 : BitVec 32 := Scalar.muli v6 c1_i32_542
  let v793 : BitVec 32 := Scalar.addi v791 v792
  v793.toNat
-- ==== ReferenceIdeal.lean ====
abbrev S4096x2048 : Shape := ⟨2, ![4096, 2048]⟩
abbrev S2048x2048 : Shape := ⟨2, ![2048, 2048]⟩
abbrev S4096x1024 : Shape := ⟨2, ![4096, 1024]⟩
abbrev S1024x2048 : Shape := ⟨2, ![1024, 2048]⟩
abbrev S16x256x2x1024 : Shape := ⟨4, ![16, 256, 2, 1024]⟩
abbrev S_ : Shape := ⟨0, ![]⟩
abbrev S16x2 : Shape := ⟨2, ![16, 2]⟩
abbrev S16x1x2x1 : Shape := ⟨4, ![16, 1, 2, 1]⟩
abbrev S4096x4096 : Shape := ⟨2, ![4096, 4096]⟩

abbrev nBuf : Space → Nat
  | .hbm => 60
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x1024, .f32⟩
  | .hbm, ⟨3, _⟩ => ⟨S1024x2048, .f32⟩
  | .hbm, ⟨4, _⟩ => ⟨S4096x2048, .f32⟩
  | .hbm, ⟨5, _⟩ => ⟨S4096x1024, .f32⟩
  | .hbm, ⟨6, _⟩ => ⟨S1024x2048, .f32⟩
  | .hbm, ⟨7, _⟩ => ⟨S4096x2048, .f32⟩
  | .hbm, ⟨8, _⟩ => ⟨S16x256x2x1024, .f32⟩
  | .hbm, ⟨9, _⟩ => ⟨S16x256x2x1024, .f32⟩
  | .hbm, ⟨10, _⟩ => ⟨S_, .f32⟩
  | .hbm, ⟨11, _⟩ => ⟨S16x2, .f32⟩
  | .hbm, ⟨12, _⟩ => ⟨S16x1x2x1, .f32⟩
  | .hbm, ⟨13, _⟩ => ⟨S_, .f32⟩
  | .hbm, ⟨14, _⟩ => ⟨S16x1x2x1, .f32⟩
  | .hbm, ⟨15, _⟩ => ⟨S16x1x2x1, .f32⟩
  | .hbm, ⟨16, _⟩ => ⟨S_, .f32⟩
  | .hbm, ⟨17, _⟩ => ⟨S16x1x2x1, .f32⟩
  | .hbm, ⟨18, _⟩ => ⟨S16x1x2x1, .f32⟩
  | .hbm, ⟨19, _⟩ => ⟨S16x256x2x1024, .f32⟩
  | .hbm, ⟨20, _⟩ => ⟨S16x256x2x1024, .f32⟩
  | .hbm, ⟨21, _⟩ => ⟨S16x256x2x1024, .f32⟩
  | .hbm, ⟨22, _⟩ => ⟨S16x256x2x1024, .i32⟩
  | .hbm, ⟨23, _⟩ => ⟨S16x256x2x1024, .i8⟩
  | .hbm, ⟨24, _⟩ => ⟨S16x256x2x1024, .i32⟩
  | .hbm, ⟨25, _⟩ => ⟨S16x256x2x1024, .f32⟩
  | .hbm, ⟨26, _⟩ => ⟨S_, .f32⟩
  | .hbm, ⟨27, _⟩ => ⟨S16x1x2x1, .f32⟩
  | .hbm, ⟨28, _⟩ => ⟨S16x1x2x1, .f32⟩
  | .hbm, ⟨29, _⟩ => ⟨S16x256x2x1024, .f32⟩
  | .hbm, ⟨30, _⟩ => ⟨S16x256x2x1024, .f32⟩
  | .hbm, ⟨31, _⟩ => ⟨S4096x2048, .f32⟩
  | .hbm, ⟨32, _⟩ => ⟨S4096x2048, .f32⟩
  | .hbm, ⟨33, _⟩ => ⟨S16x256x2x1024, .f32⟩
  | .hbm, ⟨34, _⟩ => ⟨S16x256x2x1024, .f32⟩
  | .hbm, ⟨35, _⟩ => ⟨S_, .f32⟩
  | .hbm, ⟨36, _⟩ => ⟨S16x2, .f32⟩
  | .hbm, ⟨37, _⟩ => ⟨S16x1x2x1, .f32⟩
  | .hbm, ⟨38, _⟩ => ⟨S_, .f32⟩
  | .hbm, ⟨39, _⟩ => ⟨S16x1x2x1, .f32⟩
  | .hbm, ⟨40, _⟩ => ⟨S16x1x2x1, .f32⟩
  | .hbm, ⟨41, _⟩ => ⟨S_, .f32⟩
  | .hbm, ⟨42, _⟩ => ⟨S16x1x2x1, .f32⟩
  | .hbm, ⟨43, _⟩ => ⟨S16x1x2x1, .f32⟩
  | .hbm, ⟨44, _⟩ => ⟨S16x256x2x1024, .f32⟩
  | .hbm, ⟨45, _⟩ => ⟨S16x256x2x1024, .f32⟩
  | .hbm, ⟨46, _⟩ => ⟨S16x256x2x1024, .f32⟩
  | .hbm, ⟨47, _⟩ => ⟨S16x256x2x1024, .i32⟩
  | .hbm, ⟨48, _⟩ => ⟨S16x256x2x1024, .i8⟩
  | .hbm, ⟨49, _⟩ => ⟨S16x256x2x1024, .i32⟩
  | .hbm, ⟨50, _⟩ => ⟨S16x256x2x1024, .f32⟩
  | .hbm, ⟨51, _⟩ => ⟨S_, .f32⟩
  | .hbm, ⟨52, _⟩ => ⟨S16x1x2x1, .f32⟩
  | .hbm, ⟨53, _⟩ => ⟨S16x1x2x1, .f32⟩
  | .hbm, ⟨54, _⟩ => ⟨S16x256x2x1024, .f32⟩
  | .hbm, ⟨55, _⟩ => ⟨S16x256x2x1024, .f32⟩
  | .hbm, ⟨56, _⟩ => ⟨S4096x2048, .f32⟩
  | .hbm, ⟨57, _⟩ => ⟨S4096x2048, .f32⟩
  | .hbm, ⟨58, _⟩ => ⟨S4096x4096, .f32⟩
  | .hbm, ⟨59, _⟩ => ⟨S4096x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_6 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩

abbrev nD : Nat := 1
abbrev τ : Topo := Topo.v7x

variable {F : FTy → Type} [FloatOps F]
-- ==== Proof.Program.lean ====
/-
# The kernel's body, read as loops

The printed body is unrolled: eight row chunks by two column halves, then sixteen arrivals, then the waits that
drain the transfers. Here the same operations are written once over an index — a row chunk, a column half, a
block — and the printed body is shown to be that program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.Sem

variable {F : FTy → Type} [FloatOps F]

/-! ## The buffers -/

abbrev aH : Memref sig .tc .hbm S2048x1024 .f32 := Memref.whole main_arg0
abbrev bH : Memref sig .tc .hbm S1024x2048 .f32 := Memref.whole main_arg1
abbrev outH : Memref sig .tc .hbm S2048x2048 .bf16 := Memref.whole main_v1
abbrev aV : Memref sig .tc .vmem S2048x1024 .f32 := Memref.whole cc0_scratch0
abbrev bV : Memref sig .tc .vmem S1024x2048 .f32 := Memref.whole cc0_scratch1
abbrev accV : Memref sig .tc .vmem S2048x2048 .f32 := Memref.whole cc0_scratch2
abbrev outV : Memref sig .tc .vmem S2048x2048 .bf16 := Memref.whole cc0_scratch3
abbrev sqV : Memref sig .tc .vmem S2048x2048 .i8 := Memref.whole cc0_scratch4
abbrev rqV : Memref sig .tc .vmem S2048x2048 .i8 := Memref.whole cc0_scratch5
abbrev ssV : Memref sig .tc .vmem S16x128 .f32 := Memref.whole cc0_scratch6
abbrev rsV : Memref sig .tc .vmem S16x128 .f32 := Memref.whole cc0_scratch7

/-! ## The semaphores -/

/-- Arrival of row chunk `r` of the left operand. -/
abbrev semA (r : Fin 8) : DmaSem sig := ⟨r.val, by have := r.isLt; show r.val < 82; omega⟩
/-- Arrival of column half `h` of the right operand. -/
abbrev semB (h : Fin 2) : DmaSem sig := ⟨8 + h.val, by have := h.isLt; show _ < 82; omega⟩
/-- Row chunk `r` of the result written out. -/
abbrev semO (r : Fin 8) : DmaSem sig := ⟨10 + r.val, by have := r.isLt; show _ < 82; omega⟩
/-- Codes of block `i` read off by the transfer. -/
abbrev semQS (i : Fin 16) : DmaSem sig := ⟨18 + i.val, by have := i.isLt; show _ < 82; omega⟩
/-- Codes of the peer's block `i` landed. -/
abbrev semQR (i : Fin 16) : DmaSem sig := ⟨34 + i.val, by have := i.isLt; show _ < 82; omega⟩
/-- Scale of block `i` read off by the transfer. -/
abbrev semSS (i : Fin 16) : DmaSem sig := ⟨50 + i.val, by have := i.isLt; show _ < 82; omega⟩
/-- Scale of the peer's block `i` landed. -/
abbrev semSR (i : Fin 16) : DmaSem sig := ⟨66 + i.val, by have := i.isLt; show _ < 82; omega⟩

/-! ## The rectangles -/

/-- Row chunk `r` of a 2048 × 1024 operand. -/
abbrev rA (r : Fin 8) : Rect S2048x1024 := Rect.unit (s := S2048x1024) ![256 * r.val, 0] S256x1024.size (by
  have := r.isLt; intro a; fin_cases a
  · show 256 * r.val + 256 ≤ 2048; omega
  · show 0 + 1024 ≤ 1024; omega)
/-- Column half `h` of a 1024 × 2048 operand. -/
abbrev rB (h : Fin 2) : Rect S1024x2048 := Rect.unit (s := S1024x2048) ![0, 1024 * h.val] S1024x1024.size (by
  have := h.isLt; intro a; fin_cases a
  · show 0 + 1024 ≤ 1024; omega
  · show 1024 * h.val + 1024 ≤ 2048; omega)
/-- Block `i` of a 2048 × 2048 array: row chunk `i / 2`, column half `i % 2`. -/
abbrev rC (i : Fin 16) : Rect S2048x2048 := Rect.unit (s := S2048x2048) ![256 * (i.val / 2), 1024 * (i.val % 2)] S256x1024.size (by
  have := i.isLt; intro a; fin_cases a
  · show 256 * (i.val / 2) + 256 ≤ 2048; omega
  · show 1024 * (i.val % 2) + 1024 ≤ 2048; omega)
/-- Row chunk `r` of a 2048 × 2048 array. -/
abbrev rO (r : Fin 8) : Rect S2048x2048 := Rect.unit (s := S2048x2048) ![256 * r.val, 0] S256x2048.size (by
  have := r.isLt; intro a; fin_cases a
  · show 256 * r.val + 256 ≤ 2048; omega
  · show 0 + 2048 ≤ 2048; omega)
/-- Row `i` of the scales. -/
abbrev rS (i : Fin 16) : Rect S16x128 := Rect.unit (s := S16x128) ![i.val, 0] S1x128.size (by
  have := i.isLt; intro a; fin_cases a
  · show i.val + 1 ≤ 16; omega
  · show 0 + 128 ≤ 128; omega)
/-- The first entry of row `i` of the scales. -/
abbrev rS1 (i : Fin 16) : Rect S16x128 := Rect.unit (s := S16x128) ![i.val, 0] S1x1.size (by
  have := i.isLt; intro a; fin_cases a
  · show i.val + 1 ≤ 16; omega
  · show 0 + 1 ≤ 128; omega)

/-- A block is whole packed rows of int8 codes. -/
theorem packed_i8 (i : Fin 16) : (rC i).PackedRows (EltTy.packing .i8) := by fin_cases i <;> decide +kernel
/-- A block is whole packed rows of bfloat16. -/
theorem packed_bf16 (i : Fin 16) : (rC i).PackedRows (EltTy.packing .bf16) := by fin_cases i <;> decide +kernel
/-- A block is whole words of int8 codes. -/
theorem words_i8 (i : Fin 16) : (rC i).WholeWords (EltTy.packing .i8) := by fin_cases i <;> decide +kernel
/-- A row of the result is whole words of bfloat16. -/
theorem words_bf16 (r : Fin 8) : (rO r).WholeWords (EltTy.packing .bf16) := by fin_cases r <;> decide +kernel

/-! ## The slices -/

abbrev aHs (r : Fin 8) : Memref sig .tc .hbm S256x1024 .f32 := aH.slice (rA r) (fun _ => rfl)
abbrev aVs (r : Fin 8) : Memref sig .tc .vmem S256x1024 .f32 := aV.slice (rA r) (fun _ => rfl)
abbrev bHs (h : Fin 2) : Memref sig .tc .hbm S1024x1024 .f32 := bH.slice (rB h) (fun _ => rfl)
abbrev bVs (h : Fin 2) : Memref sig .tc .vmem S1024x1024 .f32 := bV.slice (rB h) (fun _ => rfl)
abbrev outHs (r : Fin 8) : Memref sig .tc .hbm S256x2048 .bf16 := outH.slice (rO r) (fun _ => rfl)
abbrev outVs (r : Fin 8) : Memref sig .tc .vmem S256x2048 .bf16 := outV.slice (rO r) (fun _ => rfl)
abbrev sqs (i : Fin 16) : Memref sig .tc .vmem S256x1024 .i8 := sqV.slice (rC i) (fun _ => rfl)
abbrev rqs (i : Fin 16) : Memref sig .tc .vmem S256x1024 .i8 := rqV.slice (rC i) (fun _ => rfl)
abbrev sss (i : Fin 16) : Memref sig .tc .vmem S1x128 .f32 := ssV.slice (rS i) (fun _ => rfl)
abbrev rss (i : Fin 16) : Memref sig .tc .vmem S1x128 .f32 := rsV.slice (rS i) (fun _ => rfl)

/-- A slot of codes to send is whole words. -/
theorem sqs_words (i : Fin 16) : (sqs i).view.WordExact := (Memref.isWhole_whole cc0_scratch4).wordExact_slice rfl _ (words_i8 i)
/-- A landing slot of codes is whole words. -/
theorem rqs_words (i : Fin 16) : (rqs i).view.WordExact := (Memref.isWhole_whole cc0_scratch5).wordExact_slice rfl _ (words_i8 i)
/-- A row of the result is whole words. -/
theorem outHs_words (r : Fin 8) : (outHs r).view.WordExact := (Memref.isWhole_whole main_v1).wordExact_slice rfl _ (words_bf16 r)
/-- A row of the result in scratch is whole words. -/
theorem outVs_words (r : Fin 8) : (outVs r).view.WordExact := (Memref.isWhole_whole cc0_scratch3).wordExact_slice rfl _ (words_bf16 r)

/-! ## The peer -/

/-- Device `(x, y)` exchanges with `(x, 1 - y)`. -/
def peer (c : Dev nD) : Dev nD := ⟨k0_dev1 c, k0_dev1_lt c⟩
/-- The peer's peer is the device itself. -/
theorem peer_peer (c : Dev nD) : peer (peer c) = c := by revert c; decide +kernel

/-! ## The program -/

abbrev P (F : FTy → Type) [FloatOps F] (α : Type) := Prog (TpuEff nD τ sig (Elt F) Λ₀ .tc) α

def copyA (r : Fin 8) : P F PUnit :=
  Prog.lift (.enqueueDma (aHs r) (.here (aVs r)) (.dma (semA r)) (View.wordExact_bits rfl) (View.wordExact_bits rfl) ⟨Or.inl rfl, trivial⟩)
def copyB (h : Fin 2) : P F PUnit :=
  Prog.lift (.enqueueDma (bHs h) (.here (bVs h)) (.dma (semB h)) (View.wordExact_bits rfl) (View.wordExact_bits rfl) ⟨Or.inl rfl, trivial⟩)

/-- Meet the peer at the barrier. -/
def meet (d : Dev nD) : P F PUnit := do
  semSignalWord (peer d) (SemArray.scalar (sig.barrier 0 rfl) : Sems sig S_).sem 1#32
  semWaitWord (SemArray.scalar (sig.barrier 0 rfl) : Sems sig S_).sem 1#32

def getA (r : Fin 8) : P F (Vec F S256x1024 .f32) := do
  Prog.lift (.waitDma2 (semA r) (aHs r) (aVs r) (View.wordExact_bits rfl) (View.wordExact_bits rfl))
  Prog.lift (.load aV (rA r).toLoadRect (View.loadsAt_vmem h_S256x1024))
def getB (h : Fin 2) : P F (Vec F S1024x1024 .f32) := do
  Prog.lift (.waitDma2 (semB h) (bHs h) (bVs h) (View.wordExact_bits rfl) (View.wordExact_bits rfl))
  Prog.lift (.load bV (rB h).toLoadRect (View.loadsAt_vmem h_S1024x1024))

/-- The codes of a block's partial product. -/
def codes (a : Vec F S256x1024 .f32) (b : Vec F S1024x1024 .f32) : IVec S256x1024 8 :=
  k0_pay7 (k0_pay3 a b) (k0_pay5 a b) (Scalar.ofBits .f32 0x42FE0000#32)

/-- Block `i`: the partial product kept, its codes and scale computed and sent to the peer. -/
def block (d : Dev nD) (i : Fin 16) (a : Vec F S256x1024 .f32) (b : Vec F S1024x1024 .f32) : P F PUnit := do
  let _ ← Prog.lift (.load accV (rC i).toLoadRect (View.loadsAt_vmem h_S256x1024))
  Prog.lift (.store accV (rC i) (k0_pay4 a b) Finset.univ (View.stores_vmem_bits_univ h_S256x1024 rfl) (.inl rfl))
  let _ ← Prog.lift (.load ssV (rS i).toLoadRect (View.loadsAt_vmem h_S1x128))
  Prog.lift (.store ssV (rS i) (k0_pay6 a b) Finset.univ (View.stores_vmem_bits_univ h_S1x128 rfl) (.inl rfl))
  let _ ← Prog.lift (.load sqV (rC i).toLoadRect (View.loadsAt_vmem h_S256x1024))
  Prog.lift (.store sqV (rC i) (codes a b) Finset.univ (View.stores_vmem h_S256x1024 ((Memref.isWhole_whole cc0_scratch4).storeExact_slice rfl _ (packed_i8 i)) (fun _ => rfl)) (.inl rfl))
  Prog.lift (.enqueueDma (sss i) (.remote (Dev.tc (peer d)) (rss i) (.dma (semSS i))) (.dma (semSR i)) (View.wordExact_bits rfl) (View.wordExact_bits rfl) ⟨⟨rfl, Or.inl rfl⟩, trivial⟩)
  Prog.lift (.enqueueDma (sqs i) (.remote (Dev.tc (peer d)) (rqs i) (.dma (semQS i))) (.dma (semQR i)) (sqs_words i) (rqs_words i) ⟨⟨rfl, Or.inl rfl⟩, trivial⟩)

/-- Block `i` of the result, once the peer's codes and scale have landed. -/
def finish (i : Fin 16) : P F PUnit := do
  Prog.lift (.waitDma2 (semSR i) (sss i) (rss i) (View.wordExact_bits rfl) (View.wordExact_bits rfl))
  Prog.lift (.waitDma2 (semQR i) (sqs i) (rqs i) (sqs_words i) (rqs_words i))
  let p ← Prog.lift (.load accV (rC i).toLoadRect (View.loadsAt_vmem h_S256x1024))
  let q ← Prog.lift (.load rqV (rC i).toLoadRect (View.loadsAt_vmem h_S256x1024))
  let s ← Prog.lift (.load rsV (rS1 i).toLoadRect (View.loadsAt_vmem h_S1x1))
  let _ ← Prog.lift (.load outV (rC i).toLoadRect (View.loadsAt_vmem h_S256x1024))
  Prog.lift (.store outV (rC i) (k0_pay97 p q s) Finset.univ (View.stores_vmem h_S256x1024 ((Memref.isWhole_whole cc0_scratch3).storeExact_slice rfl _ (packed_bf16 i)) (fun _ => rfl)) (.inl rfl))

/-- Row chunk `r` of the result sent to the result array. -/
def copyOut (r : Fin 8) : P F PUnit :=
  Prog.lift (.enqueueDma (outVs r) (.here (outHs r)) (.dma (semO r)) (outVs_words r) (outHs_words r) ⟨Or.inl rfl, trivial⟩)
def waitOut (r : Fin 8) : P F PUnit :=
  Prog.lift (.waitDma2 (semO r) (outVs r) (outHs r) (outVs_words r) (outHs_words r))
/-- The transfers of block `i` have read their sources. -/
def waitSent (i : Fin 16) : P F PUnit := do
  Prog.lift (.waitDma2 (semQS i) (rqs i) (sqs i) (rqs_words i) (sqs_words i))
  Prog.lift (.waitDma2 (semSS i) (rss i) (sss i) (View.wordExact_bits rfl) (View.wordExact_bits rfl))

/-- One call per index, in order. -/
def each {n : ℕ} (f : Fin n → P F PUnit) : (k : ℕ) → k ≤ n → P F PUnit
  | 0, _ => pure ⟨⟩
  | k + 1, h => do f ⟨n - (k + 1), by omega⟩; each f k (by omega)

def lo (r : Fin 8) : Fin 16 := ⟨2 * r.val, by omega⟩
def hi (r : Fin 8) : Fin 16 := ⟨2 * r.val + 1, by omega⟩

def row (d : Dev nD) (b0 b1 : Vec F S1024x1024 .f32) (r : Fin 8) : P F PUnit := do
  let a ← getA r
  block d (lo r) a b0
  block d (hi r) a b1
def finishRow (r : Fin 8) : P F PUnit := do
  finish (lo r)
  finish (hi r)
  copyOut r

/-- The whole body. -/
def prog : P F PUnit := do
  let d ← Prog.lift .deviceId
  each copyB 2 le_rfl
  each copyA 8 le_rfl
  meet d
  let a ← getA 0
  let b0 ← getB 0
  block d (lo 0) a b0
  let b1 ← getB 1
  block d (hi 0) a b1
  each (row d b0 b1) 7 (by omega)
  each finishRow 8 le_rfl
  each waitOut 8 le_rfl
  each waitSent 16 le_rfl

end Cert.Exchange

end
-- ==== Proof.Credits.lean ====
/-
# What the transfers credit

A transfer of a slice credits its semaphore by an amount read off the slice. Each kind of slice gets one name for it.
-/
module

public import proofs.«01_k».proof.Proof.Program

@[expose] public section

noncomputable section

namespace Cert.Exchange

open Cert.KernelIdeal Cert.KernelIdeal.Gen
open Idealize.ShloMosaic
open Idealize.ShloMosaic.TcCoe

/-- What a transfer of a slice credits. -/
def credit {sp : Space} {sh : Shape} {e : EltTy} (M : Memref sig .tc sp sh e) : ℕ := M.view.dmaCredit
/-- `credit` is the credit of the slice's view. -/
theorem credit_eq {sp : Space} {sh : Shape} {e : EltTy} (M : Memref sig .tc sp sh e) : M.view.dmaCredit = credit M := rfl
/-- A transfer of a slice that is not empty credits something. -/
theorem credit_pos {sp : Space} {sh : Shape} {e : EltTy} (M : Memref sig .tc sp sh e) (h : 0 < sh.numel) : 0 < credit M :=
  View.dmaCredit_pos _ h
attribute [irreducible] credit

abbrev nA (r : Fin 8) : ℕ := credit (aVs r)
abbrev nB (h : Fin 2) : ℕ := credit (bVs h)
abbrev nO (r : Fin 8) : ℕ := credit (outHs r)
abbrev nQ (i : Fin 16) : ℕ := credit (rqs i)
abbrev nS (i : Fin 16) : ℕ := credit (rss i)
/-- The two ends of a transfer to the peer credit alike. -/
theorem nQ_eq' (i : Fin 16) : (sqs i).view.dmaCredit = nQ i := (show _ = (rqs i).view.dmaCredit from rfl).trans (credit_eq _)
/-- The two ends of a scale transfer credit alike. -/
theorem nS_eq' (i : Fin 16) : (sss i).view.dmaCredit = nS i := (show _ = (rss i).view.dmaCredit from rfl).trans (credit_eq _)
/-- The transfer of a row chunk credits something. -/
theorem nA_pos (r : Fin 8) : 0 < nA r := credit_pos _ (by decide +kernel)
/-- The transfer of a column half credits something. -/
theorem nB_pos (h : Fin 2) : 0 < nB h := credit_pos _ (by decide +kernel)
/-- The copy of a row of the result credits something. -/
theorem nO_pos (r : Fin 8) : 0 < nO r := credit_pos _ (by decide +kernel)
/-- The transfer of a block of codes credits something. -/
theorem nQ_pos (i : Fin 16) : 0 < nQ i := credit_pos _ (by decide +kernel)
/-- The transfer of a scale row credits something. -/
theorem nS_pos (i : Fin 16) : 0 < nS i := credit_pos _ (by decide +kernel)

end Cert.Exchange

end
-- ==== Proof.Protocol.lean ====
/-
# The exchange, written down

On each device 83 semaphores. The barrier is signalled by the peer, who hands over its landing buffers (codes and
scales, at any contents). Each arrival of an operand chunk hands over the chunk in fast memory and the part of the
operand it was read from. Each transfer to the peer pays twice: the sender's own cell gives the sent slice back, and
the peer's cell hands over the landing slice holding the sender's codes (or scale row). Each copy of a row chunk to
the result array hands over those rows of the result. The contents are stated here as functions of the memory the
run starts from; the schedule names them.
-/
module

public import proofs.«01_k».proof.Proof.Program
public import proofs.«01_k».proof.Proof.Credits
public import Idealize.ShloMosaic.Lib.Memref
public import Idealize.ShloMosaic.Lib.ValueIdxCore
public import Idealize.ShloMosaic.Lib.Rounds
public import Idealize.ShloMosaic.Lib.Rounds.Family

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## Contents -/

def argA (c : Dev nD) : Vec F S2048x1024 .f32 := m ((c : Thread nD τ).loc main_arg0)
def argB (c : Dev nD) : Vec F S1024x2048 .f32 := m ((c : Thread nD τ).loc main_arg1)

def rowOf (i : Fin 16) : Fin 8 := ⟨i.val / 2, by omega⟩
def halfOf (i : Fin 16) : Fin 2 := ⟨i.val % 2, by omega⟩
/-- The left block of row `r` lies in row `r`. -/
theorem rowOf_lo (r : Fin 8) : rowOf (lo r) = r := Fin.ext (by show 2 * r.val / 2 = r.val; omega)
/-- The right block of row `r` lies in row `r`. -/
theorem rowOf_hi (r : Fin 8) : rowOf (hi r) = r := Fin.ext (by show (2 * r.val + 1) / 2 = r.val; omega)
/-- The left block lies in the left half. -/
theorem halfOf_lo (r : Fin 8) : halfOf (lo r) = 0 := Fin.ext (by show 2 * r.val % 2 = 0; omega)
/-- The right block lies in the right half. -/
theorem halfOf_hi (r : Fin 8) : halfOf (hi r) = 1 := Fin.ext (by show (2 * r.val + 1) % 2 = 1; omega)

/-- Row chunk `r` of the left operand. -/
def chunkA (c : Dev nD) (r : Fin 8) : Vec F S256x1024 .f32 := fun j => argA m c ((rA r).emb j)
/-- Column half `h` of the right operand. -/
def chunkB (c : Dev nD) (h : Fin 2) : Vec F S1024x1024 .f32 := fun j => argB m c ((rB h).emb j)

/-- Block `i` of device `c`'s partial product; its scale row; its codes. -/
def partialBlk (c : Dev nD) (i : Fin 16) : Vec F S256x1024 .f32 := k0_pay4 (chunkA m c (rowOf i)) (chunkB m c (halfOf i))
def scaleRow (c : Dev nD) (i : Fin 16) : Vec F S1x128 .f32 := k0_pay6 (chunkA m c (rowOf i)) (chunkB m c (halfOf i))
def codesBlk (c : Dev nD) (i : Fin 16) : IVec S256x1024 8 := codes (chunkA m c (rowOf i)) (chunkB m c (halfOf i))

/-- The scale of block `i`: the first entry of its row. -/
def scale1 (c : Dev nD) (i : Fin 16) : Vec F S1x1 .f32 := fun _ => scaleRow m c i (ix2 0 0)

/-- Block `i` of device `c`'s result. -/
def outBlk (c : Dev nD) (i : Fin 16) : Vec F S256x1024 .bf16 :=
  k0_pay97 (partialBlk m c i) (codesBlk m (peer c) i) (scale1 m (peer c) i)

/-- The block an element of the result lies in, and its place there. -/
def blockOf (x : S2048x2048.Idx) : Fin 16 := ⟨2 * ((x 0).val / 256) + (x 1).val / 1024, by
  have h0 : (x 0).val < 2048 := (x 0).isLt
  have h1 : (x 1).val < 2048 := (x 1).isLt
  omega⟩
def within (x : S2048x2048.Idx) : S256x1024.Idx :=
  ix2 ⟨(x 0).val % 256, Nat.mod_lt _ (by decide)⟩ ⟨(x 1).val % 1024, Nat.mod_lt _ (by decide)⟩

/-- Device `c`'s result. -/
def outArr (c : Dev nD) : Vec F S2048x2048 .bf16 := fun x => outBlk m c (blockOf x) (within x)

/-- A row chunk of the result. -/
def outRow (c : Dev nD) (r : Fin 8) : Vec F S256x2048 .bf16 := fun j => outArr m c ((rO r).emb j)

/-! ## Owning a slice -/

/-- Device `c` owns the slice and it reads `X`. -/
abbrev own {sp : Space} {sh : Shape} {e : EltTy} (c : Dev nD) (M : Memref sig .tc sp sh e) (X : sh.Idx → Elt F e) : sProp 𝕄 :=
  owns (c : Thread nD τ) M fullShare X
/-- Device `c` owns the slice, at any contents. -/
abbrev held {sp : Space} {sh : Shape} {e : EltTy} (c : Dev nD) (M : Memref sig .tc sp sh e) : sProp 𝕄 :=
  iprop(∃ X : sh.Idx → Elt F e, own c M X)

/-! ## The cells -/

/-- The transfers of one device: arrivals of the left and of the right operand, copies of the result, then codes read
    off, codes landed, scales read off, scales landed. -/
abbrev Slot : Type := Fin 8 ⊕ Fin 2 ⊕ Fin 8 ⊕ Fin 16 ⊕ Fin 16 ⊕ Fin 16 ⊕ Fin 16

set_option synthInstance.maxSize 4096 in
instance slot_decEq : DecidableEq Slot := inferInstance

abbrev slA (r : Fin 8) : Slot := .inl r
abbrev slB (h : Fin 2) : Slot := .inr (.inl h)
abbrev slO (r : Fin 8) : Slot := .inr (.inr (.inl r))
abbrev slQS (i : Fin 16) : Slot := .inr (.inr (.inr (.inl i)))
abbrev slQR (i : Fin 16) : Slot := .inr (.inr (.inr (.inr (.inl i))))
abbrev slSS (i : Fin 16) : Slot := .inr (.inr (.inr (.inr (.inr (.inl i)))))
abbrev slSR (i : Fin 16) : Slot := .inr (.inr (.inr (.inr (.inr (.inr i)))))

abbrev dsem : Slot → DmaSem sig
  | .inl r => semA r
  | .inr (.inl h) => semB h
  | .inr (.inr (.inl r)) => semO r
  | .inr (.inr (.inr (.inl i))) => semQS i
  | .inr (.inr (.inr (.inr (.inl i)))) => semQR i
  | .inr (.inr (.inr (.inr (.inr (.inl i))))) => semSS i
  | .inr (.inr (.inr (.inr (.inr (.inr i))))) => semSR i

/-- The transfer a semaphore counts. -/
def slotOf (k : DmaSem sig) : Slot :=
  have hk : k.val < 82 := k.isLt
  if h0 : k.val < 8 then slA ⟨k.val, h0⟩
  else if h1 : k.val < 10 then slB ⟨k.val - 8, by omega⟩
  else if h2 : k.val < 18 then slO ⟨k.val - 10, by omega⟩
  else if h3 : k.val < 34 then slQS ⟨k.val - 18, by omega⟩
  else if h4 : k.val < 50 then slQR ⟨k.val - 34, by omega⟩
  else if h5 : k.val < 66 then slSS ⟨k.val - 50, by omega⟩
  else slSR ⟨k.val - 66, by omega⟩

/-- The slot of a slot's semaphore is the slot. -/
theorem slotOf_dsem (x : Slot) : slotOf (dsem x) = x := by
  rcases x with r | h | r | i | i | i | i
  · fin_cases r <;> rfl
  · fin_cases h <;> rfl
  · fin_cases r <;> rfl
  all_goals fin_cases i <;> rfl
/-- The semaphore of a semaphore's slot is the semaphore. -/
theorem dsem_slotOf (k : DmaSem sig) : dsem (slotOf k) = k := by revert k; decide +kernel

/-- The cells of one device: the barrier and the transfers. -/
abbrev CI : Type := Unit ⊕ Slot

abbrev barS : Sem sig := (SemArray.scalar (sig.barrier 0 rfl) : Sems sig S_).sem

abbrev csem : CI → SemLoc sig
  | .inl _ => .reg barS
  | .inr x => .dma (dsem x)

def ciOf : SemLoc sig → CI
  | .reg _ => .inl ()
  | .dma k => .inr (slotOf k)

/-- The cell of a cell's semaphore is the cell. -/
theorem ciOf_csem (x : CI) : ciOf (csem x) = x := by
  rcases x with _ | x
  · rfl
  · exact congrArg Sum.inr (slotOf_dsem x)

abbrev cell (c : Dev nD) (x : CI) : GSem nD τ sig := ((c : Thread nD τ), csem x)
abbrev bar : CI := .inl ()

/-! ## The schedule -/

/-- What a cell's one round counts up to. -/
def amt : CI → ℕ
  | .inl _ => 1
  | .inr (.inl r) => nA r
  | .inr (.inr (.inl h)) => nB h
  | .inr (.inr (.inr (.inl r))) => nO r
  | .inr (.inr (.inr (.inr (.inl i)))) => nQ i
  | .inr (.inr (.inr (.inr (.inr (.inl i))))) => nQ i
  | .inr (.inr (.inr (.inr (.inr (.inr (.inl i)))))) => nS i
  | .inr (.inr (.inr (.inr (.inr (.inr (.inr i)))))) => nS i

/-- Every cell counts up to something. -/
theorem amt_pos (x : CI) : 0 < amt x := by
  rcases x with _ | r | h | r | i | i | i | i
  · exact Nat.one_pos
  · exact nA_pos r
  · exact nB_pos h
  · exact nO_pos r
  · exact nQ_pos i
  · exact nQ_pos i
  · exact nS_pos i
  · exact nS_pos i

/-- What a cell hands to the one who waits on it. -/
def pay (c : Dev nD) : CI → sProp 𝕄
  | .inl _ => bigSep Finset.univ fun i : Fin 16 => iprop(held (peer c) (rss i) ∗ held (peer c) (rqs i))
  | .inr (.inl r) => iprop(own c (aVs r) (chunkA m c r) ∗ own c (aHs r) (chunkA m c r))
  | .inr (.inr (.inl h)) => iprop(own c (bVs h) (chunkB m c h) ∗ own c (bHs h) (chunkB m c h))
  | .inr (.inr (.inr (.inl r))) => iprop(own c (outHs r) (outRow m c r) ∗ held c (outVs r))
  | .inr (.inr (.inr (.inr (.inl i)))) => held c (sqs i)
  | .inr (.inr (.inr (.inr (.inr (.inl i))))) => own c (rqs i) (codesBlk m (peer c) i)
  | .inr (.inr (.inr (.inr (.inr (.inr (.inl i)))))) => held c (sss i)
  | .inr (.inr (.inr (.inr (.inr (.inr (.inr i)))))) => own c (rss i) (scaleRow m (peer c) i)

instance pay_storable (c : Dev nD) (x : CI) : BI.Storable (upEmb : UEmb _ 𝕄) (pay m c x) := by
  rcases x with _ | r | h | r | i | i | i | i <;> (unfold pay; infer_instance)

/-- One round per cell, paid once. -/
def sched : Rounds.Schedule (GSem nD τ sig) Unit 𝕄 where
  duties g r := if r = 0 ∧ g.1.2 = .tc then {()} else ∅
  unitless _ := False
  amount g _ _ := amt (ciOf g.2)
  payload g _ _ := pay m g.1.1 (ciOf g.2)
  amount_pos g _ _ _ := amt_pos _

instance sched_payload_storable (g : GSem nD τ sig) (r : ℕ) (d : Unit) : BI.Storable (upEmb : UEmb _ 𝕄) ((sched (F := F) m).payload g r d) := by
  show BI.Storable upEmb (pay m g.1.1 (ciOf g.2)); infer_instance

/-- The first round of a cell has one payment. -/
theorem duties_cell (c : Dev nD) (x : CI) : (sched (F := F) m).duties (cell c x) 0 = {()} := by
  have h : (0 : ℕ) = 0 ∧ (cell c x).1.2 = .tc := ⟨rfl, rfl⟩
  exact if_pos (e := (∅ : Finset Unit)) h
/-- The one payment belongs to the first round. -/
theorem mem_duties (c : Dev nD) (x : CI) : () ∈ (sched (F := F) m).duties (cell c x) 0 := by
  rw [duties_cell]; exact Finset.mem_singleton_self _
/-- Later rounds have no payment. -/
theorem duties_later (g : GSem nD τ sig) (r : ℕ) (hr : 1 ≤ r) : (sched (F := F) m).duties g r = ∅ :=
  if_neg (c := r = 0 ∧ g.1.2 = .tc) fun h => by omega
/-- The amount of a cell's payment. -/
theorem amount_cell (c : Dev nD) (x : CI) : (sched (F := F) m).amount (cell c x) 0 () = amt x := congrArg amt (ciOf_csem x)
/-- What a cell's payment hands over. -/
theorem payload_cell (c : Dev nD) (x : CI) (u : Unit) : (sched (F := F) m).payload (cell c x) 0 u = pay m c x := congrArg (pay m c) (ciOf_csem x)
/-- What a cell's first round counts up to. -/
theorem expect_cell (c : Dev nD) (x : CI) : (sched (F := F) m).expect (cell c x) 0 = amt x := by
  unfold Schedule.expect Schedule.amountOf; rw [duties_cell, Finset.sum_singleton, amount_cell]
/-- What is left of a cell's first round before anything is taken is all it hands over. -/
theorem rest_cell (c : Dev nD) (x : CI) :
    bigSep ((sched (F := F) m).duties (cell c x) 0 \ ∅) (fun u => (sched (F := F) m).payload (cell c x) 0 u) = pay m c x := by
  rw [Finset.sdiff_empty, duties_cell, bigSep_singleton, payload_cell]

/-! ## What is owed; the levels -/

/-- Block `i` owes the peer its codes and its scale. -/
def owed1 (c : Dev nD) (i : Fin 16) : CellTallies nD τ sig Unit :=
  tallyAt (cell (peer c) (.inr (slQR i))) () (amt (.inr (slQR i))) + tallyAt (cell (peer c) (.inr (slSR i))) () (amt (.inr (slSR i)))
/-- What the blocks from the `k`-th on owe. -/
def owedFrom (c : Dev nD) (k : ℕ) : CellTallies nD τ sig Unit :=
  ∑ i ∈ Finset.univ.filter (fun i : Fin 16 => k ≤ i.val), owed1 c i
/-- What a device owes at the start: all its blocks, and the barrier's signal. -/
def O₀ (c : Dev nD) : CellTallies nD τ sig Unit := owedFrom c 0 + tallyAt (cell (peer c) bar) () (amt bar)

/-- The indices from `i` on are `i` and those from `i + 1` on. -/
theorem filter_from {n : ℕ} (i : Fin n) :
    Finset.univ.filter (fun j : Fin n => i.val ≤ j.val) = insert i (Finset.univ.filter (fun j : Fin n => i.val + 1 ≤ j.val)) := by
  ext j
  simp only [Finset.mem_filter, Finset.mem_univ, true_and, Finset.mem_insert, Fin.ext_iff]
  omega
/-- `i` is not among the indices from `i + 1` on. -/
theorem not_mem_from {n : ℕ} (i : Fin n) : i ∉ Finset.univ.filter (fun j : Fin n => i.val + 1 ≤ j.val) := by
  simp only [Finset.mem_filter, not_and]; omega
/-- From the end on there is no index. -/
theorem filter_end {n : ℕ} (k : ℕ) (h : n ≤ k) : Finset.univ.filter (fun j : Fin n => k ≤ j.val) = ∅ := by
  ext j
  simp only [Finset.mem_filter, Finset.mem_univ, true_and, Finset.notMem_empty, iff_false]
  omega

/-- What is owed from block `i` on is block `i`'s codes and scale and what is owed after it. -/
theorem owedFrom_step (c : Dev nD) (i : Fin 16) :
    owedFrom c i.val = (owedFrom c (i.val + 1) + tallyAt (cell (peer c) (.inr (slQR i))) () (amt (.inr (slQR i))))
      + tallyAt (cell (peer c) (.inr (slSR i))) () (amt (.inr (slSR i))) := by
  unfold owedFrom
  rw [filter_from, Finset.sum_insert (not_mem_from i), owed1, add_comm, add_assoc]
/-- After the last block nothing is owed. -/
theorem owedFrom_end (c : Dev nD) : owedFrom c 16 = 0 := by
  unfold owedFrom; rw [filter_end 16 le_rfl]; rfl

def level : CI → ℕ
  | .inl _ => 1
  | .inr (.inr (.inr (.inr (.inr (.inl _))))) => 2
  | .inr (.inr (.inr (.inr (.inr (.inr (.inr _)))))) => 2
  | _ => 0

def L (g : GSem nD τ sig) : Finset Unit := if g.1.2 = .tc then {()} else ∅
def lv (g : GSem nD τ sig) (_ : Unit) : ℕ := level (ciOf g.2)
/-- A core of another kind has no cell. -/
theorem L_of_ne (g : GSem nD τ sig) (h : g.1.2 ≠ .tc) : L g = ∅ := if_neg h
/-- Every semaphore of a device's core has one level. -/
theorem L_tc (c : Dev nD) (sm : SemLoc sig) : L ((c : Thread nD τ), sm) = {()} := if_pos rfl
/-- The level of a cell. -/
theorem lv_cell (c : Dev nD) (x : CI) (u : Unit) : lv (cell c x) u = level x := congrArg level (ciOf_csem x)

/-- A debt to one semaphore is to that semaphore. -/
theorem tallyAt_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

/-- The blocks owe only cells of the peer, of the high level. -/
theorem owedFrom_pos {c : Dev nD} {k : ℕ} {g : GSem nD τ sig} {u : Unit} (h : 0 < owedFrom c k g u) :
    ∃ x, g = cell (peer c) x ∧ level x = 2 := by
  unfold owedFrom at h
  rw [Finset.sum_apply, Finsupp.finset_sum_apply] at h
  obtain ⟨i, -, hi⟩ := Finset.exists_ne_zero_of_sum_ne_zero (Nat.pos_iff_ne_zero.mp h)
  unfold owed1 at hi
  rw [Pi.add_apply, Finsupp.add_apply] at hi
  by_cases h1 : 0 < (tallyAt (cell (peer c) (.inr (slQR i))) () (amt (.inr (slQR i))) : CellTallies nD τ sig Unit) g u
  · exact ⟨_, tallyAt_pos h1, rfl⟩
  · refine ⟨_, tallyAt_pos (g := cell (peer c) (.inr (slSR i))) (g' := g) (u := u) (n := amt (.inr (slSR i))) ?_, rfl⟩
    omega

/-- A wait on a cell of low level is allowed while blocks are owed. -/
theorem mayWait (c : Dev nD) (x : CI) (hx : level x ≤ 1) (k : ℕ) :
    (levAts L lv : sProp 𝕄) ⊢ MayWait (c : Thread nD τ) (csem x) () (owedFrom c k) :=
  MayOwe.of_cut (L := L) (lev := lv) 1 (fun p hp => by rw [Finset.mem_singleton.mp hp, L_tc]; exact Finset.mem_singleton_self _)
    (fun g u hg => by obtain ⟨y, rfl, -⟩ := owedFrom_pos hg; rw [L_tc]; exact Finset.mem_singleton_self _)
    (fun p hp => by rw [Finset.mem_singleton.mp hp]; exact (lv_cell c x ()).trans_le hx)
    (fun g u hg => by obtain ⟨y, rfl, hy⟩ := owedFrom_pos hg; rw [lv_cell, hy]; decide)

/-! ## The records -/

/-- Every cell of every device is under the schedule, its first round open. -/
def records (K : Dev nD × CI → ℕ) : sProp 𝕄 :=
  iprop((bigSep Finset.univ fun ck : Dev nD × CI => cellInv ER (sched m) (K ck) (cell ck.1 ck.2))
    ∗ bigSep Finset.univ fun ck : Dev nD × CI => reached ER (cell ck.1 ck.2) 0)
instance records_persistent (K : Dev nD × CI → ℕ) : BI.Persistent (records m K) := by unfold records; infer_instance

/-- The records contain every cell's invariant. -/
theorem records_inv (K : Dev nD × CI → ℕ) (c : Dev nD) (x : CI) : records m K ⊢ cellInv ER (sched m) (K (c, x)) (cell c x) :=
  (show records m K ⊢ _ from by unfold records; iintro ⟨H, -⟩; iexact H).trans
    (bigSep_elim (Φ := fun ck : Dev nD × CI => cellInv ER (sched m) (K ck) (cell ck.1 ck.2)) (Finset.mem_univ (c, x)))
/-- The records say that every cell has reached its first round. -/
theorem records_reached (K : Dev nD × CI → ℕ) (c : Dev nD) (x : CI) : records m K ⊢ reached ER (cell c x) 0 :=
  (show records m K ⊢ _ from by unfold records; iintro ⟨-, H⟩; iexact H).trans
    (bigSep_elim (Φ := fun ck : Dev nD × CI => reached ER (cell ck.1 ck.2) 0) (Finset.mem_univ (c, x)))

abbrev tok (c : Dev nD) (x : CI) : sProp 𝕄 := dutyTok ER (cell c x) 0 ()
abbrev pos0 (c : Dev nD) (x : CI) : sProp 𝕄 := atPos ER (cell c x) 0 ∅ 0
abbrev pos1 (c : Dev nD) (x : CI) : sProp 𝕄 := atPos ER (cell c x) (0 + 1) ∅ 0
abbrev crd (c : Dev nD) (x : CI) : sProp 𝕄 := cred (tallyAt (cell c x) () (amt x))
/-- What the device owes, whatever it has waited for. -/
abbrev owing (c : Dev nD) (O : CellTallies nD τ sig Unit) : sProp 𝕄 := iprop(∃ W : Waits sig Unit, owes (c : Thread nD τ) O W)

end Cert.Exchange

end
-- ==== Proof.Steps.lean ====
/-
# One operation at a time

Each operation of the exchange, as a rule over what a device owns: a load keeps the slice, a store changes it, a copy
or a transfer spends its cell's token, a wait brings its cell's payload.
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` runs `p` and ends in `Q`. -/
abbrev runs (c : Dev nD) {α : Type} (p : P F α) (Q : α → sProp 𝕄) : sProp 𝕄 :=
  wp frame (wpE (defs₀ (F := F)) 𝒱₀ (c : Thread nD τ) none) Set.univ p Q

/-- What every step may use: the records and the levels. -/
def ctx (K : Dev nD × CI → ℕ) : sProp 𝕄 := iprop(records m K ∗ levAts L lv)
instance ctx_persistent (K : Dev nD × CI → ℕ) : BI.Persistent (ctx m K) := by unfold ctx; infer_instance
/-- The context contains every cell's invariant. -/
theorem ctx_inv (K : Dev nD × CI → ℕ) (c : Dev nD) (x : CI) : ctx m K ⊢ cellInv ER (sched m) (K (c, x)) (cell c x) :=
  (show ctx m K ⊢ records m K from by unfold ctx; iintro ⟨H, -⟩; iexact H).trans (records_inv m K c x)
/-- The context says that every cell has reached its first round. -/
theorem ctx_reached (K : Dev nD × CI → ℕ) (c : Dev nD) (x : CI) : ctx m K ⊢ reached ER (cell c x) 0 :=
  (show ctx m K ⊢ records m K from by unfold ctx; iintro ⟨H, -⟩; iexact H).trans (records_reached m K c x)
/-- The context contains the levels. -/
theorem ctx_lev (K : Dev nD × CI → ℕ) : ctx m K ⊢ levAts L lv := by unfold ctx; iintro ⟨-, H⟩; iexact H

/-- A load of a slice the device owns. -/
theorem step_load (c : Dev nD) {cs : CoreSpace} {s : Shape} {e : EltTy} (M : Memref sig .tc cs s e) (r : Rect s)
    (hr : ∀ a, r.stride a = 1) (hl : M.view.LoadsAt r) (X : r.shape.Idx → Elt F e) (Q : (r.shape.Idx → Elt F e) → sProp 𝕄) :
    iprop(own c (M.slice r hr) X ∗ (own c (M.slice r hr) X -∗ Q X)) ⊢ runs c (Prog.lift (.load M r.toLoadRect hl)) Q := by
  unfold runs own owns Prog.lift
  iintro ⟨⟨%f, %hf, H⟩, HQ⟩
  iapply (wp_load_rect 𝒱₀ (c : Thread nD τ) none Set.univ (m := M) (r := r) (subset_refl _)) $$ H
  iintro H
  rw [wp_ret]; imodintro
  rw [show (M.access r).read (Elt F) f = X from hf]
  iapply HQ
  iexists f
  isplitr; · ipureintro; exact hf
  iexact H

/-- A load of part of a slice the device owns. -/
theorem step_load_part (c : Dev nD) {cs : CoreSpace} {s : Shape} {e : EltTy} (M : Memref sig .tc cs s e) (r r' : Rect s)
    (hr : ∀ a, r.stride a = 1) (hl : M.view.LoadsAt r') (φ : r'.shape.Idx → r.shape.Idx) (hφ : ∀ j, r'.emb j = r.emb (φ j))
    (X : r.shape.Idx → Elt F e) (Q : (r'.shape.Idx → Elt F e) → sProp 𝕄) :
    iprop(own c (M.slice r hr) X ∗ (own c (M.slice r hr) X -∗ Q (fun j => X (φ j)))) ⊢ runs c (Prog.lift (.load M r'.toLoadRect hl)) Q := by
  unfold runs own owns Prog.lift
  iintro ⟨⟨%f, %hf, H⟩, HQ⟩
  have hsub : (M.access r').set ⊆ (M.slice r hr).view.set := by
    intro x hx
    obtain ⟨j, -, rfl⟩ := Finset.mem_map.mp hx
    exact Finset.mem_map.mpr ⟨φ j, Finset.mem_univ _, congrArg M.view.emb (hφ j).symm⟩
  have hread : (M.access r').read (Elt F) f = fun j => X (φ j) := by
    funext j
    rw [← hf]
    exact congrArg (M.view.read (Elt F) f) (hφ j)
  iapply (wp_load_rect 𝒱₀ (c : Thread nD τ) none Set.univ (m := M) (r := r') (S := (M.slice r hr).view.set) hsub) $$ H
  iintro H
  rw [wp_ret]; imodintro
  rw [show (M.access r').read (Elt F) f = fun j => X (φ j) from hread]
  iapply HQ
  iexists f
  isplitr; · ipureintro; exact hf
  iexact H

/-- A store to a slice the device owns. -/
theorem step_store (c : Dev nD) {cs : CoreSpace} {s : Shape} {e : EltTy} (M : Memref sig .tc cs s e) (r : Rect s)
    (hr : ∀ a, r.stride a = 1) (w : r.shape.Idx → Elt F e) (hx : (M.access r).Stores Finset.univ)
    (hm : Finset.univ = Finset.univ ∨ ∀ a, r.stride a = 1) (Q : PUnit → sProp 𝕄) :
    iprop(held c (M.slice r hr) ∗ (own c (M.slice r hr) w -∗ Q ⟨⟩)) ⊢ runs c (Prog.lift (.store M r w Finset.univ hx hm)) Q := by
  unfold runs held own owns Prog.lift
  iintro ⟨⟨%X, %f, %hf, H⟩, HQ⟩
  iapply (wp_store 𝒱₀ (c : Thread nD τ) none Set.univ (m := M) (r := r) (Mk := Finset.univ) (View.setOn_univ _).subset) $$ H
  iintro H
  rw [wp_ret]; imodintro
  iapply HQ
  iexists _
  isplitr
  · ipureintro; exact View.read_write_univ (v := M.access r) f w
  iexact H

/-- A copy within the device. -/
theorem step_copy (K : Dev nD × CI → ℕ) (c : Dev nD) {sp sp' : Space} {s : Shape} {e : EltTy} (src : Memref sig .tc sp s e) (dst : Memref sig .tc sp' s e)
    (x : Slot) (hsrc : src.view.WordExact) (hdst : dst.view.WordExact)
    (hsem : DmaTarget.Typed sp (.dma (dsem x)) (DmaTarget.here (nD := nD) (τ := τ) (p := .tc) dst)) (hN : dst.view.dmaCredit = amt (.inr x))
    (X : s.Idx → Elt F e) (hpay : iprop(own c dst X ∗ own c src X) ⊢ pay m c (.inr x)) (Q : PUnit → sProp 𝕄) :
    iprop(ctx m K ∗ own c src X ∗ held c dst ∗ tok c (.inr x) ∗ (crd c (.inr x) -∗ Q ⟨⟩))
      ⊢ runs c (Prog.lift (.enqueueDma src (.here dst) (.dma (dsem x)) hsrc hdst hsem)) Q := by
  unfold runs Prog.lift
  iintro ⟨#HC, Hs, Hd, Ht, HQ⟩
  unfold held own
  icases Hd with ⟨%Y, Hd⟩
  ihave Hs := (Entails.of_eq (show owns (c : Thread nD τ) src fullShare X = iprop(∃ f, ⌜src.view.read (Elt F) f = X⌝ ∗ src.view.loc (c : Thread nD τ) ↦[src.view.set]{fullShare} f) from rfl)) $$ Hs
  ihave Hd := (Entails.of_eq (show owns (c : Thread nD τ) dst fullShare Y = iprop(∃ f, ⌜dst.view.read (Elt F) f = Y⌝ ∗ dst.view.loc (c : Thread nD τ) ↦[dst.view.set]{fullShare} f) from rfl)) $$ Hd
  icases Hs with ⟨%f, %hf, Hs⟩
  icases Hd with ⟨%g, %hg, Hd⟩
  iapply (Rounds.wp_copy_pointsTo 𝒱₀ ER (sched m) (c : Thread nD τ) none (κ := K (c, .inr x)) (src := src) (dst := dst) (r := 0) (d := ()) (fs := f) (fd := g)
      (mem_duties m c (.inr x)) () (amt (.inr x)) hN (amount_cell m c (.inr x))
      (by
        rw [payload_cell m c (.inr x)]
        refine BIBase.Entails.trans ?_ hpay
        unfold own owns
        iintro ⟨H1, H2⟩
        isplitl [H1]
        · iexists _
          isplitr
          · ipureintro; exact (View.read_write_univ (v := dst.view) g _).trans hf
          iexact H1
        iexists f
        isplitr; · ipureintro; exact hf
        iexact H2)) $$ [Hs Hd Ht]
  · isplitr; · iapply (ctx_inv m K c (.inr x)); iexact HC
    isplitl [Hs]; · iexact Hs
    isplitl [Hd]; · iexact Hd
    isplitl [Ht]; · iexact Ht
    iapply (ctx_reached m K c (.inr x)); iexact HC
  iintro Hc
  rw [wp_ret]; imodintro
  iapply HQ; iexact Hc

/-- A transfer to the peer. -/
theorem step_send (K : Dev nD × CI → ℕ) (c : Dev nD) {sp sp' : Space} {s : Shape} {e : EltTy} (src : Memref sig .tc sp s e) (dst : Memref sig .tc sp' s e)
    (x y : Slot) (hsc : dst.view.ref.isScScratch = false) (hsrc : src.view.WordExact) (hdst : dst.view.WordExact)
    (hsem : DmaTarget.Typed sp (.dma (dsem y)) (DmaTarget.remote (nD := nD) (τ := τ) (p := .tc) (Dev.tc (peer c)) dst (.dma (dsem x)) hsc))
    (hN : dst.view.dmaCredit = amt (.inr x)) (hxy : amt (.inr y) = amt (.inr x))
    (X : s.Idx → Elt F e) (hpay₁ : own c src X ⊢ pay m c (.inr x)) (hpay₂ : own (peer c) dst X ⊢ pay m (peer c) (.inr y))
    (O₀ O : CellTallies nD τ sig Unit) (hO : O₀ = O + tallyAt (cell (peer c) (.inr y)) () (amt (.inr y))) (Q : PUnit → sProp 𝕄) :
    iprop(ctx m K ∗ own c src X ∗ held (peer c) dst ∗ tok c (.inr x) ∗ tok (peer c) (.inr y) ∗ owing c O₀
        ∗ (crd c (.inr x) -∗ owing c O -∗ Q ⟨⟩))
      ⊢ runs c (Prog.lift (.enqueueDma src (.remote (Dev.tc (peer c)) dst (.dma (dsem x)) hsc) (.dma (dsem y)) hsrc hdst hsem)) Q := by
  unfold runs Prog.lift
  iintro ⟨#HC, Hs, Hd, Ht, Ht', Ho, HQ⟩
  unfold held own
  icases Hd with ⟨%Y, Hd⟩
  ihave Hs := (Entails.of_eq (show owns (c : Thread nD τ) src fullShare X = iprop(∃ f, ⌜src.view.read (Elt F) f = X⌝ ∗ src.view.loc (c : Thread nD τ) ↦[src.view.set]{fullShare} f) from rfl)) $$ Hs
  ihave Hd := (Entails.of_eq (show owns (peer c : Thread nD τ) dst fullShare Y = iprop(∃ f, ⌜dst.view.read (Elt F) f = Y⌝ ∗ dst.view.loc (peer c : Thread nD τ) ↦[dst.view.set]{fullShare} f) from rfl)) $$ Hd
  icases Hs with ⟨%f, %hf, Hs⟩
  icases Hd with ⟨%g, %hg, Hd⟩
  icases Ho with ⟨%W, Ho⟩
  iapply (Rounds.wp_send_pointsTo 𝒱₀ ER (sched m) (c : Thread nD τ) none (κ₁ := K (c, .inr x)) (κ₂ := K (peer c, .inr y)) (src := src) (dst := dst)
      (c' := (peer c : Thread nD τ)) (r₁ := 0) (r₂ := 0) (d₁ := ()) (d₂ := ()) (fs := f) (fd := g)
      (mem_duties m c (.inr x)) (mem_duties m (peer c) (.inr y)) () () (amt (.inr x)) hN (amount_cell m c (.inr x)) ((amount_cell m (peer c) (.inr y)).trans hxy)
      O (hO.trans (by rw [hxy])) (W := W)
      (by
        rw [payload_cell m c (.inr x)]
        refine BIBase.Entails.trans ?_ hpay₁
        unfold own owns
        iintro H
        iexists f
        isplitr; · ipureintro; exact hf
        iexact H)
      (by
        rw [payload_cell m (peer c) (.inr y)]
        refine BIBase.Entails.trans ?_ hpay₂
        unfold own owns
        iintro H
        iexists _
        isplitr
        · ipureintro; exact (View.read_write_univ (v := dst.view) g _).trans hf
        iexact H)) $$ [Hs Hd Ht Ht' Ho]
  · isplitr; · iapply (ctx_inv m K c (.inr x)); iexact HC
    isplitr; · iapply (ctx_inv m K (peer c) (.inr y)); iexact HC
    isplitl [Hs]; · iexact Hs
    isplitl [Hd]; · iexact Hd
    isplitl [Ho]; · iexact Ho
    isplitl [Ht]; · iexact Ht
    isplitr; · iapply (ctx_reached m K c (.inr x)); iexact HC
    isplitl [Ht']; · iexact Ht'
    iapply (ctx_reached m K (peer c) (.inr y)); iexact HC
  iintro ⟨Hc, Ho⟩
  rw [wp_ret]; imodintro
  iapply HQ $$ Hc
  iexists W; iexact Ho

/-- A wait for a transfer. -/
theorem step_wait (K : Dev nD × CI → ℕ) (c : Dev nD) {sp sp' : Space} {s s' : Shape} {e e' : EltTy} (src : Memref sig .tc sp s e) (dst : Memref sig .tc sp' s' e')
    (x : Slot) (hsrc : src.view.WordExact) (hdst : dst.view.WordExact) (hN : dst.view.dmaCredit = amt (.inr x))
    (O : CellTallies nD τ sig Unit) (hmw : (levAts L lv : sProp 𝕄) ⊢ MayWait (c : Thread nD τ) (csem (.inr x)) () O) (Q : PUnit → sProp 𝕄) :
    iprop(ctx m K ∗ crd c (.inr x) ∗ pos0 c (.inr x) ∗ owing c O
        ∗ (owing c O -∗ pos1 c (.inr x) -∗ pay m c (.inr x) -∗ Q ⟨⟩))
      ⊢ runs c (Prog.lift (.waitDma2 (dsem x) src dst hsrc hdst)) Q := by
  unfold runs Prog.lift
  iintro ⟨#HC, Hc, Hp, ⟨%W, Ho⟩, HQ⟩
  iapply (Rounds.wp_wait_rest_token 𝒱₀ ER (sched m) (c : Thread nD τ) none (κ := K (c, .inr x)) (k' := dst.view.dmaCredit)
      (wpE_waitDma2_eq 𝒱₀ (c : Thread nD τ) none Set.univ) (Set.mem_univ _) () (O := O) (W := W) (R := 0) (m := 0) (T := ∅)
      (by rw [Nat.zero_add, hN]; exact (expect_cell m c (.inr x)).symm)) $$ [Hc Hp Ho]
  · isplitr; · iapply (ctx_inv m K c (.inr x)); iexact HC
    isplitl [Hc]; · rw [hN]; iexact Hc
    isplitl [Ho]; · iexact Ho
    isplitr; · iapply hmw; iapply (ctx_lev m K); iexact HC
    iexact Hp
  iintro ⟨Ho, Hp, -, Hpay⟩
  ihave Hpay := (Entails.of_eq (rest_cell m c (.inr x))) $$ Hpay
  rw [wp_ret]; imodintro
  iapply HQ $$ [Ho] Hp Hpay
  iexists _; iexact Ho

/-- The signal to the peer's barrier hands over what that cell pays. -/
theorem step_signal (K : Dev nD × CI → ℕ) (c : Dev nD) (O₀ O : CellTallies nD τ sig Unit) (hO : O₀ = O + tallyAt (cell (peer c) bar) () (amt bar))
    (Q : PUnit → sProp 𝕄) :
    iprop(ctx m K ∗ tok (peer c) bar ∗ pay m (peer c) bar ∗ owing c O₀ ∗ (owing c O -∗ Q ⟨⟩)) ⊢ runs c (semSignalWord (peer c) barS 1#32) Q := by
  unfold runs semSignalWord
  iintro ⟨#HC, Ht, Hpay, ⟨%W, Ho⟩, HQ⟩
  iapply (Rounds.wp_signal 𝒱₀ ER (sched m) (c : Thread nD τ) none (dst := (peer c : Thread nD τ)) (κ := K (peer c, bar)) (r := 0) (d := ())
      (mem_duties m (peer c) bar) ((amount_cell m (peer c) bar).trans (by decide)) () O hO (W := W)) $$ [Ht Hpay Ho]
  · isplitr; · iapply (ctx_inv m K (peer c) bar); iexact HC
    isplitl [Ho]; · iexact Ho
    isplitl [Ht]; · iexact Ht
    isplitl [Hpay]; · rw [payload_cell m (peer c) bar]; iexact Hpay
    iapply (ctx_reached m K (peer c) bar); iexact HC
  iintro Ho
  rw [wp_ret]; imodintro
  iapply HQ
  iexists W; iexact Ho

/-- The wait at the device's own barrier. -/
theorem step_meet (K : Dev nD × CI → ℕ) (c : Dev nD) (O : CellTallies nD τ sig Unit)
    (hmw : (levAts L lv : sProp 𝕄) ⊢ MayWait (c : Thread nD τ) (csem bar) () O) (Q : PUnit → sProp 𝕄) :
    iprop(ctx m K ∗ crd c bar ∗ pos0 c bar ∗ owing c O ∗ (owing c O -∗ pos1 c bar -∗ pay m c bar -∗ Q ⟨⟩))
      ⊢ runs c (semWaitWord barS 1#32) Q := by
  unfold runs semWaitWord
  iintro ⟨#HC, Hc, Hp, ⟨%W, Ho⟩, HQ⟩
  iapply (Rounds.wp_wait_rest_token 𝒱₀ ER (sched m) (c : Thread nD τ) none (κ := K (c, bar))
      (wpE_semWait_eq 𝒱₀ (c : Thread nD τ) none Set.univ) (Set.mem_univ _) () (O := O) (W := W) (R := 0) (m := 0) (T := ∅)
      (by rw [Nat.zero_add]; exact (show _ = amt bar from by decide).trans (expect_cell m c bar).symm)) $$ [Hc Hp Ho]
  · isplitr; · iapply (ctx_inv m K c bar); iexact HC
    isplitl [Hc]; · iexact Hc
    isplitl [Ho]; · iexact Ho
    isplitr; · iapply hmw; iapply (ctx_lev m K); iexact HC
    iexact Hp
  iintro ⟨Ho, Hp, -, Hpay⟩
  ihave Hpay := (Entails.of_eq (rest_cell m c bar)) $$ Hpay
  rw [wp_ret]; imodintro
  iapply HQ $$ [Ho] Hp Hpay
  iexists _; iexact Ho

end Cert.Exchange

end
-- ==== Proof.Rects.lean ====
/-
# The slices cut their buffers

Row chunks, column halves and blocks are disjoint and cover; a block of the result is its part of the result; the
two blocks of a row chunk make the chunk.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## Membership -/

/-- The entries of row chunk `r` of the left operand. -/
theorem mem_rA (r : Fin 8) (x : S2048x1024.Idx) : x ∈ (rA r).set ↔ (x 0).val / 256 = r.val := by
  have h0 : (x 0).val < 2048 := (x 0).isLt
  have h1 : (x 1).val < 1024 := (x 1).isLt
  refine Rect.mem_set_unit.trans ⟨fun h => ?_, fun h a => ?_⟩
  · have h := h 0
    have h : 256 * r.val ≤ (x 0).val ∧ (x 0).val < 256 * r.val + 256 := h
    omega
  · fin_cases a
    · show 256 * r.val ≤ (x 0).val ∧ (x 0).val < 256 * r.val + 256; omega
    · show 0 ≤ (x 1).val ∧ (x 1).val < 0 + 1024; omega
/-- The entries of column half `r` of the right operand. -/
theorem mem_rB (r : Fin 2) (x : S1024x2048.Idx) : x ∈ (rB r).set ↔ (x 1).val / 1024 = r.val := by
  have h0 : (x 0).val < 1024 := (x 0).isLt
  have h1 : (x 1).val < 2048 := (x 1).isLt
  refine Rect.mem_set_unit.trans ⟨fun h => ?_, fun h a => ?_⟩
  · have h := h 1
    have h : 1024 * r.val ≤ (x 1).val ∧ (x 1).val < 1024 * r.val + 1024 := h
    omega
  · fin_cases a
    · show 0 ≤ (x 0).val ∧ (x 0).val < 0 + 1024; omega
    · show 1024 * r.val ≤ (x 1).val ∧ (x 1).val < 1024 * r.val + 1024; omega
/-- The entries of row `r` of the result. -/
theorem mem_rO (r : Fin 8) (x : S2048x2048.Idx) : x ∈ (rO r).set ↔ (x 0).val / 256 = r.val := by
  have h0 : (x 0).val < 2048 := (x 0).isLt
  have h1 : (x 1).val < 2048 := (x 1).isLt
  refine Rect.mem_set_unit.trans ⟨fun h => ?_, fun h a => ?_⟩
  · have h := h 0
    have h : 256 * r.val ≤ (x 0).val ∧ (x 0).val < 256 * r.val + 256 := h
    omega
  · fin_cases a
    · show 256 * r.val ≤ (x 0).val ∧ (x 0).val < 256 * r.val + 256; omega
    · show 0 ≤ (x 1).val ∧ (x 1).val < 0 + 2048; omega
/-- The entries of scale row `r`. -/
theorem mem_rS (r : Fin 16) (x : S16x128.Idx) : x ∈ (rS r).set ↔ (x 0).val = r.val := by
  have h0 : (x 0).val < 16 := (x 0).isLt
  have h1 : (x 1).val < 128 := (x 1).isLt
  refine Rect.mem_set_unit.trans ⟨fun h => ?_, fun h a => ?_⟩
  · have h := h 0
    have h : r.val ≤ (x 0).val ∧ (x 0).val < r.val + 1 := h
    omega
  · fin_cases a
    · show r.val ≤ (x 0).val ∧ (x 0).val < r.val + 1; omega
    · show 0 ≤ (x 1).val ∧ (x 1).val < 0 + 128; omega
/-- The entries of block `i`. -/
theorem mem_rC (i : Fin 16) (x : S2048x2048.Idx) : x ∈ (rC i).set ↔ blockOf x = i := by
  have h0 : (x 0).val < 2048 := (x 0).isLt
  have h1 : (x 1).val < 2048 := (x 1).isLt
  have hi := i.isLt
  rw [Fin.ext_iff]
  show _ ↔ 2 * ((x 0).val / 256) + (x 1).val / 1024 = i.val
  refine Rect.mem_set_unit.trans ⟨fun h => ?_, fun h a => ?_⟩
  · have h2 := h 0
    have h2 : 256 * (i.val / 2) ≤ (x 0).val ∧ (x 0).val < 256 * (i.val / 2) + 256 := h2
    have h3 := h 1
    have h3 : 1024 * (i.val % 2) ≤ (x 1).val ∧ (x 1).val < 1024 * (i.val % 2) + 1024 := h3
    omega
  · fin_cases a
    · show 256 * (i.val / 2) ≤ (x 0).val ∧ (x 0).val < 256 * (i.val / 2) + 256; omega
    · show 1024 * (i.val % 2) ≤ (x 1).val ∧ (x 1).val < 1024 * (i.val % 2) + 1024; omega

/-! ## Disjoint and covering -/

/-- The parts of a cut do not overlap. -/
theorem cut_disjoint {T : Type} {s : Shape} {r : T → Rect s} {φ : s.Idx → T} (h : ∀ t x, x ∈ (r t).set ↔ φ x = t) (t t' : T) (ht : t ≠ t') :
    Disjoint (r t).set (r t').set :=
  Finset.disjoint_left.mpr fun x hx hx' => ht (((h t x).mp hx).symm.trans ((h t' x).mp hx'))
/-- The parts of a cut are everything. -/
theorem cut_cover {T : Type} [Fintype T] {s : Shape} {r : T → Rect s} {φ : s.Idx → T} (h : ∀ t x, x ∈ (r t).set ↔ φ x = t) :
    (Finset.univ : Finset T).biUnion (fun t => (r t).set) = Finset.univ := by
  ext x
  simp only [Finset.mem_biUnion, Finset.mem_univ, true_and, iff_true]
  exact ⟨φ x, (h _ x).mpr rfl⟩

/-- The row chunks cut the left operand. -/
theorem cut_rA (r : Fin 8) (x : S2048x1024.Idx) : x ∈ (rA r).set ↔ (⟨(x 0).val / 256, by have h : (x 0).val < 2048 := (x 0).isLt; omega⟩ : Fin 8) = r :=
  (mem_rA r x).trans (Fin.ext_iff (a := ⟨_, _⟩) (b := r)).symm
/-- The column halves cut the right operand. -/
theorem cut_rB (r : Fin 2) (x : S1024x2048.Idx) : x ∈ (rB r).set ↔ (⟨(x 1).val / 1024, by have h : (x 1).val < 2048 := (x 1).isLt; omega⟩ : Fin 2) = r :=
  (mem_rB r x).trans (Fin.ext_iff (a := ⟨_, _⟩) (b := r)).symm
/-- The rows cut the result. -/
theorem cut_rO (r : Fin 8) (x : S2048x2048.Idx) : x ∈ (rO r).set ↔ (⟨(x 0).val / 256, by have h : (x 0).val < 2048 := (x 0).isLt; omega⟩ : Fin 8) = r :=
  (mem_rO r x).trans (Fin.ext_iff (a := ⟨_, _⟩) (b := r)).symm
/-- The scale rows cut the scales. -/
theorem cut_rS (r : Fin 16) (x : S16x128.Idx) : x ∈ (rS r).set ↔ (⟨(x 0).val, (x 0).isLt⟩ : Fin 16) = r :=
  (mem_rS r x).trans (Fin.ext_iff (a := ⟨_, _⟩) (b := r)).symm

/-- A memref owned at `X` is its slices of a cut, each at its part; and back. -/
theorem own_cut {T : Type} [Fintype T] [DecidableEq T] {sp : Space} {s : Shape} {e : EltTy} {r : T → Rect s} {φ : s.Idx → T}
    (h : ∀ t x, x ∈ (r t).set ↔ φ x = t) (hr : ∀ t a, (r t).stride a = 1) (c : Dev nD) (M : Memref sig .tc sp s e) (X : s.Idx → Elt F e) :
    own c M X ⊢ bigSep Finset.univ fun t => own c (M.slice (r t) (hr t)) (fun j => X ((r t).emb j)) :=
  owns_rects (c : Thread nD τ) M fullShare r hr (cut_disjoint h) (cut_cover h) X
/-- The slices of a cut, each owned at its part of `X`, make up the memref at `X`. -/
theorem own_join {T : Type} [Fintype T] [DecidableEq T] {sp : Space} {s : Shape} {e : EltTy} {r : T → Rect s} {φ : s.Idx → T}
    (h : ∀ t x, x ∈ (r t).set ↔ φ x = t) (hr : ∀ t a, (r t).stride a = 1) (c : Dev nD) (M : Memref sig .tc sp s e) (X : s.Idx → Elt F e) :
    bigSep Finset.univ (fun t => own c (M.slice (r t) (hr t)) (fun j => X ((r t).emb j))) ⊢ own c M X :=
  owns_of_rects (c : Thread nD τ) M fullShare r hr (cut_disjoint h) (cut_cover h) X

/-- Contents given slice by slice are contents of the whole. -/
theorem glue {T : Type} {s : Shape} {α : Type} [Nonempty α] {r : T → Rect s} {φ : s.Idx → T}
    (h : ∀ t x, x ∈ (r t).set ↔ φ x = t) (X : (t : T) → (r t).shape.Idx → α) : ∃ Y : s.Idx → α, ∀ t j, Y ((r t).emb j) = X t j := by
  classical
  refine ⟨fun x => if h : ∃ p : (t : T) × (r t).shape.Idx, (r p.1).emb p.2 = x then X h.choose.1 h.choose.2 else Classical.arbitrary α, fun t j => ?_⟩
  have hex : ∃ p : (t : T) × (r t).shape.Idx, (r p.1).emb p.2 = (r t).emb j := ⟨⟨t, j⟩, rfl⟩
  have hin : ∀ t j, (r t).emb j ∈ (r t).set := fun t j => by
    rw [← Rect.map_emb_univ]; exact Finset.mem_map_of_mem _ (Finset.mem_univ j)
  have huniq : ∀ p : (t : T) × (r t).shape.Idx, (r p.1).emb p.2 = (r t).emb j → p = ⟨t, j⟩ := by
    rintro ⟨t', j'⟩ he
    have ht : t' = t := ((h _ _).mp (hin t' j')).symm.trans ((congrArg φ he).trans ((h _ _).mp (hin t j)))
    subst ht
    have hj : j' = j := (r t').emb.injective he
    rw [hj]
  show dite _ _ _ = _
  rw [dif_pos hex, huniq _ hex.choose_spec]

/-- Slices held at any contents make the memref held at some contents. -/
theorem held_join {T : Type} [Fintype T] [DecidableEq T] {sp : Space} {s : Shape} {e : EltTy} {r : T → Rect s} {φ : s.Idx → T}
    (h : ∀ t x, x ∈ (r t).set ↔ φ x = t) (hr : ∀ t a, (r t).stride a = 1) (c : Dev nD) (M : Memref sig .tc sp s e) :
    bigSep Finset.univ (fun t => held c (M.slice (r t) (hr t)) : T → sProp 𝕄) ⊢ held c M := by
  unfold held
  iintro H
  ihave H := (bigSep_exists_pi Finset.univ fun t (X : (r t).shape.Idx → Elt F e) => own c (M.slice (r t) (hr t)) X) $$ H
  icases H with ⟨%X, H⟩
  obtain ⟨Y, hY⟩ := glue h X
  iexists Y
  iapply (own_join h hr c M Y)
  rw [show (fun t => own c (M.slice (r t) (hr t)) fun j => Y ((r t).emb j)) = fun t => own c (M.slice (r t) (hr t)) (X t) from
    funext fun t => congrArg (own c (M.slice (r t) (hr t))) (funext fun j => hY t j)]
  iexact H

/-- Owning at some contents is owning at any. -/
theorem held_of_own {sp : Space} {s : Shape} {e : EltTy} (c : Dev nD) (M : Memref sig .tc sp s e) (X : s.Idx → Elt F e) :
    own c M X ⊢ (held c M : sProp 𝕄) := by
  unfold held; iintro H; iexists X; iexact H

/-- A memref owned at any contents is its slices of a cut, each at any contents. -/
theorem held_cut {T : Type} [Fintype T] [DecidableEq T] {sp : Space} {s : Shape} {e : EltTy} {r : T → Rect s} {φ : s.Idx → T}
    (h : ∀ t x, x ∈ (r t).set ↔ φ x = t) (hr : ∀ t a, (r t).stride a = 1) (c : Dev nD) (M : Memref sig .tc sp s e) :
    (held c M : sProp 𝕄) ⊢ bigSep Finset.univ fun t => held c (M.slice (r t) (hr t)) := by
  unfold held
  iintro ⟨%X, H⟩
  iapply (show bigSep Finset.univ (fun t => own c (M.slice (r t) (hr t)) (fun j => X ((r t).emb j))) ⊢ bigSep Finset.univ fun t => held c (M.slice (r t) (hr t)) from
    bigSep_mono fun t _ => held_of_own c _ _)
  iapply (own_cut h hr c M X); iexact H

/-! ## The result's blocks -/

/-- An entry of block `i` lies in block `i`. -/
theorem blockOf_emb (i : Fin 16) (j : (rC i).shape.Idx) : blockOf ((rC i).emb j) = i :=
  (mem_rC i _).mp (by rw [← Rect.map_emb_univ]; exact Finset.mem_map_of_mem _ (Finset.mem_univ j))
/-- The place within its block of an entry of a block. -/
theorem within_emb (i : Fin 16) (j : (rC i).shape.Idx) : within ((rC i).emb j) = j := by
  have h0 : (j 0).val < 256 := (j 0).isLt
  have h1 : (j 1).val < 1024 := (j 1).isLt
  funext a
  refine Fin.ext ?_
  fin_cases a
  · show (256 * (i.val / 2) + 1 * (j 0).val) % 256 = (j 0).val; omega
  · show (1024 * (i.val % 2) + 1 * (j 1).val) % 1024 = (j 1).val; omega
/-- The result on block `i` is block `i`'s result. -/
theorem outArr_emb (c : Dev nD) (i : Fin 16) : (fun j => outArr m c ((rC i).emb j)) = outBlk m c i := by
  funext j
  show outBlk m c (blockOf ((rC i).emb j)) (within ((rC i).emb j)) = _
  rw [blockOf_emb, within_emb]

/-- A row's entries are those of its two blocks. -/
theorem row_iff (r : Fin 8) (x : S2048x2048.Idx) : (x 0).val / 256 = r.val ↔ blockOf x = lo r ∨ blockOf x = hi r := by
  have h0 : (x 0).val < 2048 := (x 0).isLt
  have h1 : (x 1).val < 2048 := (x 1).isLt
  rw [Fin.ext_iff, Fin.ext_iff]
  show _ ↔ 2 * ((x 0).val / 256) + (x 1).val / 1024 = 2 * r.val ∨ 2 * ((x 0).val / 256) + (x 1).val / 1024 = 2 * r.val + 1
  omega

/-- The two blocks of a row chunk of the result make the row chunk. -/
theorem join_row (c : Dev nD) (r : Fin 8) :
    iprop(own c (outV.slice (rC (lo r)) (fun _ => rfl)) (outBlk m c (lo r)) ∗ own c (outV.slice (rC (hi r)) (fun _ => rfl)) (outBlk m c (hi r)))
      ⊢ own c (outVs r) (outRow m c r) := by
  have hne : lo r ∉ ({hi r} : Finset (Fin 16)) := by
    rw [Finset.mem_singleton, Fin.ext_iff]; show ¬ 2 * r.val = 2 * r.val + 1; omega
  have hS : (outVs r).view.set = ({lo r, hi r} : Finset (Fin 16)).biUnion fun t => (outV.view.slice (rC t)).set := by
    have e1 : (outVs r).view.set = (rO r).set := View.set_slice_whole _ _
    have e2 : ∀ t, (outV.view.slice (rC t)).set = (rC t).set := fun t => View.set_slice_whole _ _
    simp only [e1, e2]
    refine Finset.ext fun (x : S2048x2048.Idx) => ((mem_rO r x).trans (row_iff r x)).trans ?_
    rw [Finset.mem_biUnion]
    refine ⟨fun h => ⟨blockOf x, ?_, (mem_rC _ x).mpr rfl⟩, ?_⟩
    · rw [Finset.mem_insert, Finset.mem_singleton]; exact h
    · rintro ⟨t, ht, hx⟩
      rw [Finset.mem_insert, Finset.mem_singleton] at ht
      rwa [(mem_rC t x).mp hx]
  have hj := owns_rects_join (Ix := Unit) (U := UU) (Val := Elt F) (Name := ℕ) (Lvl := ℕ) (c : Thread nD τ) outV fullShare rC (fun _ _ => rfl) (cut_disjoint mem_rC) (outArr m c) {lo r, hi r}
  rw [bigSep_insert hne, bigSep_singleton, outArr_emb, outArr_emb, ← hS] at hj
  refine BIBase.Entails.trans hj ?_
  unfold own owns
  iintro ⟨%g, %hg, H⟩
  iexists g
  isplitr
  · ipureintro
    funext j
    have hx : (rO r).emb j ∈ (rO r).set := by rw [← Rect.map_emb_univ]; exact Finset.mem_map_of_mem _ (Finset.mem_univ j)
    have hb := (row_iff r _).mp ((mem_rO r _).mp hx)
    have hc : (rO r).emb j ∈ (rC (blockOf ((rO r).emb j))).set := (mem_rC _ _).mpr rfl
    rw [← Rect.map_emb_univ] at hc
    obtain ⟨k, -, hk⟩ := Finset.mem_map.mp hc
    have := hg (blockOf ((rO r).emb j)) (by rw [Finset.mem_insert, Finset.mem_singleton]; exact hb) k
    rw [hk] at this
    exact this
  iexact H

end Cert.Exchange

end
-- ==== Proof.Body.lean ====
/-
# The body, at one device

The pieces of the program against the pieces of what the device owns, then the loops, then the whole.
-/
module

public import proofs.«01_k».proof.Proof.Rects

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

abbrev accB (i : Fin 16) : Memref sig .tc .vmem S256x1024 .f32 := accV.slice (rC i) (fun _ => rfl)
abbrev outB (i : Fin 16) : Memref sig .tc .vmem S256x1024 .bf16 := outV.slice (rC i) (fun _ => rfl)

/-- Running two programs one after the other is running the first, then the second on its value. -/
theorem runs_bind (c : Dev nD) {α β : Type} (p : P F α) (k : α → P F β) (Q : β → sProp 𝕄) :
    runs c (p >>= k) Q = runs c p fun a => runs c (k a) Q := wp_bind _ _ _ _ _ _
/-- A program that only returns a value asks for nothing. -/
theorem runs_pure (c : Dev nD) {α : Type} (a : α) (Q : α → sProp 𝕄) : Q a ⊢ runs c (pure a) Q := by
  show Q a ⊢ wp frame (wpE (defs₀ (F := F)) 𝒱₀ (c : Thread nD τ) none) Set.univ (.ret a) Q
  rw [wp_ret]; iintro H; imodintro; iexact H

/-- The indices from `i` on are `i` and those from `i + 1` on. -/
theorem from_cons {n : ℕ} (i : Fin n) (Φ : Fin n → sProp 𝕄) :
    bigSep (Finset.univ.filter fun j : Fin n => i.val ≤ j.val) Φ
      = iprop(Φ i ∗ bigSep (Finset.univ.filter fun j : Fin n => i.val + 1 ≤ j.val) Φ) := by
  rw [filter_from i, bigSep_insert (not_mem_from i)]; rfl

/-- A loop: what is passed on, what each index takes and gives. -/
theorem runs_each {n : ℕ} (c : Dev nD) (f : Fin n → P F PUnit) (R : sProp 𝕄) [BI.Persistent R] (S : ℕ → sProp 𝕄) (pre post : Fin n → sProp 𝕄)
    (hf : ∀ i Q, iprop(R ∗ S i.val ∗ pre i ∗ (S (i.val + 1) -∗ post i -∗ Q ⟨⟩)) ⊢ runs c (f i) Q) (k : ℕ) (h : k ≤ n) (Q : PUnit → sProp 𝕄) :
    iprop(R ∗ S (n - k) ∗ bigSep (Finset.univ.filter fun i : Fin n => n - k ≤ i.val) pre
        ∗ (S n -∗ bigSep (Finset.univ.filter fun i : Fin n => n - k ≤ i.val) post -∗ Q ⟨⟩)) ⊢ runs c (each f k h) Q := by
  induction k generalizing Q with
  | zero =>
    rw [Nat.sub_zero, filter_end n le_rfl, bigSep_empty, bigSep_empty]
    iintro ⟨-, HS, -, HQ⟩
    iapply (runs_pure c PUnit.unit Q)
    iapply HQ $$ HS
    iempintro
  | succ k ih =>
    have he : n - k = n - (k + 1) + 1 := by omega
    have hi : n - (k + 1) < n := by omega
    rw [from_cons ⟨n - (k + 1), hi⟩ pre, from_cons ⟨n - (k + 1), hi⟩ post]
    show _ ⊢ runs c (f ⟨n - (k + 1), hi⟩ >>= fun _ => each f k (Nat.le_of_succ_le h)) Q
    rw [runs_bind]
    iintro ⟨#HR, HS, ⟨Hp, Hps⟩, HQ⟩
    iapply (hf ⟨n - (k + 1), hi⟩ _)
    isplitr; · iexact HR
    isplitl [HS]; · iexact HS
    isplitl [Hp]; · iexact Hp
    iintro HS Hq
    iapply (ih (Nat.le_of_succ_le h) Q)
    rw [he]
    isplitr; · iexact HR
    isplitl [HS]; · iexact HS
    isplitl [Hps]; · iexact Hps
    iintro HS Hqs
    iapply HQ $$ HS
    isplitl [Hq] <;> iassumption

/-- The whole loop. -/
theorem runs_all {n : ℕ} (c : Dev nD) (f : Fin n → P F PUnit) (R : sProp 𝕄) [BI.Persistent R] (S : ℕ → sProp 𝕄) (pre post : Fin n → sProp 𝕄)
    (hf : ∀ i Q, iprop(R ∗ S i.val ∗ pre i ∗ (S (i.val + 1) -∗ post i -∗ Q ⟨⟩)) ⊢ runs c (f i) Q) (Q : PUnit → sProp 𝕄) :
    iprop(R ∗ S 0 ∗ bigSep Finset.univ pre ∗ (S n -∗ bigSep Finset.univ post -∗ Q ⟨⟩)) ⊢ runs c (each f n le_rfl) Q := by
  have h := runs_each c f R S pre post hf n le_rfl Q
  rwa [Nat.sub_self, Finset.filter_true_of_mem (fun i _ => Nat.zero_le _)] at h

/-! ## The operands -/

/-- The arrival of a row chunk of the left operand hands over the chunk in scratch and its source. -/
theorem pay_A (c : Dev nD) (r : Fin 8) : pay m c (.inr (slA r)) ⊢ iprop(own c (aVs r) (chunkA m c r) ∗ own c (aHs r) (chunkA m c r)) := .rfl
/-- The arrival of a column half of the right operand hands over the half in scratch and its source. -/
theorem pay_B (c : Dev nD) (h : Fin 2) : pay m c (.inr (slB h)) ⊢ iprop(own c (bVs h) (chunkB m c h) ∗ own c (bHs h) (chunkB m c h)) := .rfl
/-- The end of a result copy hands over the row of the result and its source in scratch. -/
theorem pay_O (c : Dev nD) (r : Fin 8) : pay m c (.inr (slO r)) ⊢ iprop(own c (outHs r) (outRow m c r) ∗ held c (outVs r)) := .rfl
/-- Codes read off: the sender's slot is free again. -/
theorem pay_QS (c : Dev nD) (i : Fin 16) : pay m c (.inr (slQS i)) ⊢ held c (sqs i) := .rfl
/-- Codes landed: the slot holds the peer's codes. -/
theorem pay_QR (c : Dev nD) (i : Fin 16) : pay m c (.inr (slQR i)) ⊢ own c (rqs i) (codesBlk m (peer c) i) := .rfl
/-- A scale row read off: the sender's slot is free again. -/
theorem pay_SS (c : Dev nD) (i : Fin 16) : pay m c (.inr (slSS i)) ⊢ held c (sss i) := .rfl
/-- A scale row landed: the slot holds the peer's scales. -/
theorem pay_SR (c : Dev nD) (i : Fin 16) : pay m c (.inr (slSR i)) ⊢ own c (rss i) (scaleRow m (peer c) i) := .rfl

variable (K : Dev nD × CI → ℕ)

/-- Starting the copy of a row chunk gives up source and target and gives the credit to wait for it. -/
theorem runs_copyA (c : Dev nD) (r : Fin 8) (Q : PUnit → sProp 𝕄) :
    iprop(ctx m K ∗ emp ∗ (own c (aHs r) (chunkA m c r) ∗ held c (aVs r) ∗ tok c (.inr (slA r))) ∗ (emp -∗ crd c (.inr (slA r)) -∗ Q ⟨⟩))
      ⊢ runs c (copyA r) Q := by
  unfold copyA
  iintro ⟨#HC, -, ⟨H1, H2, H3⟩, HQ⟩
  iapply (step_copy m K c (aHs r) (aVs r) (slA r) _ _ _ (credit_eq (aVs r)) (chunkA m c r) (BIBase.Entails.rfl) Q)
  isplitr; · iexact HC
  isplitl [H1]; · iexact H1
  isplitl [H2]; · iexact H2
  isplitl [H3]; · iexact H3
  iintro H
  iapply HQ $$ [] H
  iempintro

/-- Starting the copy of a column half gives up source and target and gives the credit to wait for it. -/
theorem runs_copyB (c : Dev nD) (h : Fin 2) (Q : PUnit → sProp 𝕄) :
    iprop(ctx m K ∗ emp ∗ (own c (bHs h) (chunkB m c h) ∗ held c (bVs h) ∗ tok c (.inr (slB h))) ∗ (emp -∗ crd c (.inr (slB h)) -∗ Q ⟨⟩))
      ⊢ runs c (copyB h) Q := by
  unfold copyB
  iintro ⟨#HC, -, ⟨H1, H2, H3⟩, HQ⟩
  iapply (step_copy m K c (bHs h) (bVs h) (slB h) _ _ _ (credit_eq (bVs h)) (chunkB m c h) (BIBase.Entails.rfl) Q)
  isplitr; · iexact HC
  isplitl [H1]; · iexact H1
  isplitl [H2]; · iexact H2
  isplitl [H3]; · iexact H3
  iintro H
  iapply HQ $$ [] H
  iempintro

/-- Waiting for a row chunk and loading it reads the operand's chunk. -/
theorem runs_getA (c : Dev nD) (r : Fin 8) (k : ℕ) (Q : Vec F S256x1024 .f32 → sProp 𝕄) :
    iprop(ctx m K ∗ owing c (owedFrom c k) ∗ crd c (.inr (slA r)) ∗ pos0 c (.inr (slA r))
        ∗ (owing c (owedFrom c k) -∗ (pos1 c (.inr (slA r)) ∗ held c (aVs r) ∗ own c (aHs r) (chunkA m c r)) -∗ Q (chunkA m c r)))
      ⊢ runs c (getA r) Q := by
  unfold getA
  rw [runs_bind]
  iintro ⟨#HC, Ho, Hc, Hp, HQ⟩
  iapply (step_wait m K c (aHs r) (aVs r) (slA r) _ _ (credit_eq (aVs r)) (owedFrom c k) (mayWait c (.inr (slA r)) (Nat.zero_le 1) k) _)
  isplitr; · iexact HC
  isplitl [Hc]; · iexact Hc
  isplitl [Hp]; · iexact Hp
  isplitl [Ho]; · iexact Ho
  iintro Ho Hp Hpay
  ihave Hpay := (pay_A m c r) $$ Hpay
  icases Hpay with ⟨Hv, Hh⟩
  iapply (step_load c aV (rA r) (fun _ => rfl) _ (chunkA m c r) Q)
  isplitl [Hv]; · iexact Hv
  iintro Hv
  iapply HQ $$ Ho
  isplitl [Hp]; · iexact Hp
  isplitl [Hv]; · iapply (held_of_own c (aVs r) (chunkA m c r)); iexact Hv
  iexact Hh

/-- Waiting for a column half and loading it reads the operand's half. -/
theorem runs_getB (c : Dev nD) (r : Fin 2) (k : ℕ) (Q : Vec F S1024x1024 .f32 → sProp 𝕄) :
    iprop(ctx m K ∗ owing c (owedFrom c k) ∗ crd c (.inr (slB r)) ∗ pos0 c (.inr (slB r))
        ∗ (owing c (owedFrom c k) -∗ (pos1 c (.inr (slB r)) ∗ held c (bVs r) ∗ own c (bHs r) (chunkB m c r)) -∗ Q (chunkB m c r)))
      ⊢ runs c (getB r) Q := by
  unfold getB
  rw [runs_bind]
  iintro ⟨#HC, Ho, Hc, Hp, HQ⟩
  iapply (step_wait m K c (bHs r) (bVs r) (slB r) _ _ (credit_eq (bVs r)) (owedFrom c k) (mayWait c (.inr (slB r)) (Nat.zero_le 1) k) _)
  isplitr; · iexact HC
  isplitl [Hc]; · iexact Hc
  isplitl [Hp]; · iexact Hp
  isplitl [Ho]; · iexact Ho
  iintro Ho Hp Hpay
  ihave Hpay := (pay_B m c r) $$ Hpay
  icases Hpay with ⟨Hv, Hh⟩
  iapply (step_load c bV (rB r) (fun _ => rfl) _ (chunkB m c r) Q)
  isplitl [Hv]; · iexact Hv
  iintro Hv
  iapply HQ $$ Ho
  isplitl [Hp]; · iexact Hp
  isplitl [Hv]; · iapply (held_of_own c (bVs r) (chunkB m c r)); iexact Hv
  iexact Hh

/-! ## The barrier -/

/-- The barrier: the device hands the peer its landing slots and receives the peer's. -/
theorem runs_meet (c : Dev nD) (Q : PUnit → sProp 𝕄) :
    iprop(ctx m K ∗ owing c (O₀ c) ∗ tok (peer c) bar ∗ pay m (peer c) bar ∗ crd c bar ∗ pos0 c bar
        ∗ (owing c (owedFrom c 0) -∗ pos1 c bar -∗ pay m c bar -∗ Q ⟨⟩)) ⊢ runs c (meet c) Q := by
  unfold meet
  rw [runs_bind]
  iintro ⟨#HC, Ho, Ht, Hpay, Hc, Hp, HQ⟩
  iapply (step_signal m K c (O₀ c) (owedFrom c 0) rfl _)
  isplitr; · iexact HC
  isplitl [Ht]; · iexact Ht
  isplitl [Hpay]; · iexact Hpay
  isplitl [Ho]; · iexact Ho
  iintro Ho
  iapply (step_meet m K c (owedFrom c 0) (mayWait c bar le_rfl 0) Q)
  isplitr; · iexact HC
  isplitl [Hc]; · iexact Hc
  isplitl [Hp]; · iexact Hp
  isplitl [Ho]; · iexact Ho
  iexact HQ

/-! ## A block -/

/-- What a block starts from on its own device. -/
def blockOwn (c : Dev nD) (i : Fin 16) : sProp 𝕄 :=
  iprop(held c (accB i) ∗ held c (sss i) ∗ held c (sqs i) ∗ tok c (.inr (slSS i)) ∗ tok c (.inr (slQS i)) ∗ tok (peer c) (.inr (slSR i)) ∗ tok (peer c) (.inr (slQR i)))
/-- Where it lands. -/
def blockLand (c : Dev nD) (i : Fin 16) : sProp 𝕄 := iprop(held (peer c) (rss i) ∗ held (peer c) (rqs i))
def blockPost (c : Dev nD) (i : Fin 16) : sProp 𝕄 :=
  iprop(own c (accB i) (partialBlk m c i) ∗ crd c (.inr (slSS i)) ∗ crd c (.inr (slQS i)))

/-- One block: the product is kept, its codes and its scale are on their way to the peer, and the debt to the peer is one block less. -/
theorem runs_block (c : Dev nD) (i : Fin 16) (Q : PUnit → sProp 𝕄) :
    iprop(ctx m K ∗ owing c (owedFrom c i.val) ∗ blockOwn c i ∗ blockLand c i
        ∗ (owing c (owedFrom c (i.val + 1)) -∗ blockPost m c i -∗ Q ⟨⟩))
      ⊢ runs c (block c i (chunkA m c (rowOf i)) (chunkB m c (halfOf i))) Q := by
  unfold block blockOwn blockLand blockPost
  simp only [runs_bind]
  iintro ⟨#HC, Ho, ⟨⟨%X1, Hacc⟩, ⟨%X2, Hss⟩, ⟨%X3, Hsq⟩, Ht1, Ht2, Ht3, Ht4⟩, ⟨Hrs, Hrq⟩, HQ⟩
  iapply (step_load c accV (rC i) (fun _ => rfl) _ X1 _)
  isplitl [Hacc]; · iexact Hacc
  iintro Hacc
  iapply (step_store c accV (rC i) (fun _ => rfl) _ _ _ _)
  isplitl [Hacc]; · iexists X1; iexact Hacc
  iintro Hacc
  iapply (step_load c ssV (rS i) (fun _ => rfl) _ X2 _)
  isplitl [Hss]; · iexact Hss
  iintro Hss
  iapply (step_store c ssV (rS i) (fun _ => rfl) _ _ _ _)
  isplitl [Hss]; · iexists X2; iexact Hss
  iintro Hss
  iapply (step_load c sqV (rC i) (fun _ => rfl) _ X3 _)
  isplitl [Hsq]; · iexact Hsq
  iintro Hsq
  iapply (step_store c sqV (rC i) (fun _ => rfl) _ _ _ _)
  isplitl [Hsq]; · iexists X3; iexact Hsq
  iintro Hsq
  iapply (step_send m K c (sss i) (rss i) (slSS i) (slSR i) _ _ _ _ (credit_eq (rss i)) rfl (scaleRow m c i)
    (held_of_own c (sss i) _) (by unfold pay; rw [peer_peer]) (owedFrom c i.val)
    (owedFrom c (i.val + 1) + tallyAt (cell (peer c) (.inr (slQR i))) () (amt (.inr (slQR i)))) (owedFrom_step c i) _)
  isplitr; · iexact HC
  isplitl [Hss]; · iexact Hss
  isplitl [Hrs]; · iexact Hrs
  isplitl [Ht1]; · iexact Ht1
  isplitl [Ht3]; · iexact Ht3
  isplitl [Ho]; · iexact Ho
  iintro Hc1 Ho
  iapply (step_send m K c (sqs i) (rqs i) (slQS i) (slQR i) _ _ _ _ (credit_eq (rqs i)) rfl (codesBlk m c i)
    (held_of_own c (sqs i) _) (by unfold pay; rw [peer_peer]) _ (owedFrom c (i.val + 1)) rfl _)
  isplitr; · iexact HC
  isplitl [Hsq]; · iexact Hsq
  isplitl [Hrq]; · iexact Hrq
  isplitl [Ht2]; · iexact Ht2
  isplitl [Ht4]; · iexact Ht4
  isplitl [Ho]; · iexact Ho
  iintro Hc2 Ho
  iapply HQ $$ Ho
  isplitl [Hacc]; · iexact Hacc
  isplitl [Hc1] <;> iassumption

/-! ## A row chunk -/

def rowPre (c : Dev nD) (r : Fin 8) : sProp 𝕄 :=
  iprop((crd c (.inr (slA r)) ∗ pos0 c (.inr (slA r))) ∗ (blockOwn c (lo r) ∗ blockLand c (lo r)) ∗ (blockOwn c (hi r) ∗ blockLand c (hi r)))
def gotA (c : Dev nD) (r : Fin 8) : sProp 𝕄 := iprop(pos1 c (.inr (slA r)) ∗ held c (aVs r) ∗ own c (aHs r) (chunkA m c r))
def gotB (c : Dev nD) (h : Fin 2) : sProp 𝕄 := iprop(pos1 c (.inr (slB h)) ∗ held c (bVs h) ∗ own c (bHs h) (chunkB m c h))
def rowPost (c : Dev nD) (r : Fin 8) : sProp 𝕄 := iprop(gotA m c r ∗ blockPost m c (lo r) ∗ blockPost m c (hi r))

/-- `runs_block` for the left block of a row. -/
theorem runs_lo (c : Dev nD) (r : Fin 8) (Q : PUnit → sProp 𝕄) :
    iprop(ctx m K ∗ owing c (owedFrom c (2 * r.val)) ∗ (blockOwn c (lo r) ∗ blockLand c (lo r))
        ∗ (owing c (owedFrom c (2 * r.val + 1)) -∗ blockPost m c (lo r) -∗ Q ⟨⟩))
      ⊢ runs c (block c (lo r) (chunkA m c r) (chunkB m c 0)) Q := by
  have h := runs_block m K c (lo r) Q
  rw [rowOf_lo, halfOf_lo] at h
  iintro ⟨#HC, Ho, ⟨H1, H2⟩, HQ⟩
  iapply h
  isplitr; · iexact HC
  isplitl [Ho]; · iexact Ho
  isplitl [H1]; · iexact H1
  isplitl [H2]; · iexact H2
  iexact HQ
/-- `runs_block` for the right block of a row. -/
theorem runs_hi (c : Dev nD) (r : Fin 8) (Q : PUnit → sProp 𝕄) :
    iprop(ctx m K ∗ owing c (owedFrom c (2 * r.val + 1)) ∗ (blockOwn c (hi r) ∗ blockLand c (hi r))
        ∗ (owing c (owedFrom c (2 * (r.val + 1))) -∗ blockPost m c (hi r) -∗ Q ⟨⟩))
      ⊢ runs c (block c (hi r) (chunkA m c r) (chunkB m c 1)) Q := by
  have h := runs_block m K c (hi r) Q
  rw [rowOf_hi, halfOf_hi] at h
  iintro ⟨#HC, Ho, ⟨H1, H2⟩, HQ⟩
  iapply h
  isplitr; · iexact HC
  isplitl [Ho]; · iexact Ho
  isplitl [H1]; · iexact H1
  isplitl [H2]; · iexact H2
  iexact HQ

/-- One row: its chunk is loaded and both its blocks are done. -/
theorem runs_row (c : Dev nD) (r : Fin 8) (Q : PUnit → sProp 𝕄) :
    iprop(ctx m K ∗ owing c (owedFrom c (2 * r.val)) ∗ rowPre c r ∗ (owing c (owedFrom c (2 * (r.val + 1))) -∗ rowPost m c r -∗ Q ⟨⟩))
      ⊢ runs c (row c (chunkB m c 0) (chunkB m c 1) r) Q := by
  unfold row rowPre rowPost gotA
  simp only [runs_bind]
  iintro ⟨#HC, Ho, ⟨⟨Hc, Hp⟩, Hlo, Hhi⟩, HQ⟩
  iapply (runs_getA m K c r (2 * r.val) _)
  isplitr; · iexact HC
  isplitl [Ho]; · iexact Ho
  isplitl [Hc]; · iexact Hc
  isplitl [Hp]; · iexact Hp
  iintro Ho Hg
  iapply (runs_lo m K c r _)
  isplitr; · iexact HC
  isplitl [Ho]; · iexact Ho
  isplitl [Hlo]; · iexact Hlo
  iintro Ho Hlo
  iapply (runs_hi m K c r _)
  isplitr; · iexact HC
  isplitl [Ho]; · iexact Ho
  isplitl [Hhi]; · iexact Hhi
  iintro Ho Hhi
  iapply HQ $$ Ho
  isplitl [Hg]; · iexact Hg
  isplitl [Hlo] <;> iassumption

/-! ## A block of the result -/

def finPre (c : Dev nD) (i : Fin 16) : sProp 𝕄 :=
  iprop((crd c (.inr (slSR i)) ∗ pos0 c (.inr (slSR i)) ∗ crd c (.inr (slQR i)) ∗ pos0 c (.inr (slQR i)) ∗ held c (outB i)) ∗ own c (accB i) (partialBlk m c i))
def finKeep (c : Dev nD) (i : Fin 16) : sProp 𝕄 :=
  iprop(pos1 c (.inr (slSR i)) ∗ pos1 c (.inr (slQR i)) ∗ held c (rss i) ∗ held c (rqs i) ∗ held c (accB i))

/-- A device that owes nothing may wait on any of its cells. -/
theorem noWait (c : Dev nD) (x : CI) : (levAts L lv : sProp 𝕄) ⊢ MayWait (c : Thread nD τ) (csem x) () 0 := by
  rw [MayWait_zero]; iintro -; iempintro

/-- The first entry of a scale row. -/
theorem first_emb (i : Fin 16) (j : (rS1 i).shape.Idx) : (rS1 i).emb j = (rS i).emb (ix2 0 0) := by
  have h0 : (j 0).val < 1 := (j 0).isLt
  have h1 : (j 1).val < 1 := (j 1).isLt
  funext a
  refine Fin.ext ?_
  fin_cases a
  · show i.val + 1 * (j 0).val = i.val + 1 * 0; omega
  · show 0 + 1 * (j 1).val = 0 + 1 * 0; omega

/-- Finishing a block: the peer's scale and codes are received and the block of the result is written. -/
theorem runs_finish (c : Dev nD) (i : Fin 16) (Q : PUnit → sProp 𝕄) :
    iprop(ctx m K ∗ owing c 0 ∗ finPre m c i ∗ (owing c 0 -∗ finKeep c i -∗ own c (outB i) (outBlk m c i) -∗ Q ⟨⟩))
      ⊢ runs c (finish i) Q := by
  unfold finish finPre finKeep
  simp only [runs_bind]
  iintro ⟨#HC, Ho, ⟨⟨Hc1, Hp1, Hc2, Hp2, ⟨%X, Hout⟩⟩, Hacc⟩, HQ⟩
  iapply (step_wait m K c (sss i) (rss i) (slSR i) _ _ (credit_eq (rss i)) 0 (noWait c _) _)
  isplitr; · iexact HC
  isplitl [Hc1]; · iexact Hc1
  isplitl [Hp1]; · iexact Hp1
  isplitl [Ho]; · iexact Ho
  iintro Ho Hp1 Hrs
  iapply (step_wait m K c (sqs i) (rqs i) (slQR i) _ _ (credit_eq (rqs i)) 0 (noWait c _) _)
  isplitr; · iexact HC
  isplitl [Hc2]; · iexact Hc2
  isplitl [Hp2]; · iexact Hp2
  isplitl [Ho]; · iexact Ho
  iintro Ho Hp2 Hrq
  ihave Hrs := (pay_SR m c i) $$ Hrs
  ihave Hrq := (pay_QR m c i) $$ Hrq
  iapply (step_load c accV (rC i) (fun _ => rfl) _ (partialBlk m c i) _)
  isplitl [Hacc]; · iexact Hacc
  iintro Hacc
  iapply (step_load c rqV (rC i) (fun _ => rfl) _ (codesBlk m (peer c) i) _)
  isplitl [Hrq]; · iexact Hrq
  iintro Hrq
  iapply (step_load_part c rsV (rS i) (rS1 i) (fun _ => rfl) _ (fun _ => ix2 0 0) (first_emb i) (scaleRow m (peer c) i) _)
  isplitl [Hrs]; · iexact Hrs
  iintro Hrs
  iapply (step_load c outV (rC i) (fun _ => rfl) _ X _)
  isplitl [Hout]; · iexact Hout
  iintro Hout
  iapply (step_store c outV (rC i) (fun _ => rfl) (outBlk m c i) _ _ Q)
  isplitl [Hout]; · iexists X; iexact Hout
  iintro Hout
  iapply HQ $$ Ho [Hp1 Hp2 Hrs Hrq Hacc] Hout
  isplitl [Hp1]; · iexact Hp1
  isplitl [Hp2]; · iexact Hp2
  isplitl [Hrs]; · iapply (held_of_own c (rss i) (scaleRow m (peer c) i)); iexact Hrs
  isplitl [Hrq]; · iapply (held_of_own c (rqs i) (codesBlk m (peer c) i)); iexact Hrq
  iapply (held_of_own c (accB i) (partialBlk m c i)); iexact Hacc

def finRowPre (c : Dev nD) (r : Fin 8) : sProp 𝕄 :=
  iprop((finPre m c (lo r) ∗ finPre m c (hi r)) ∗ tok c (.inr (slO r)) ∗ held c (outHs r))
def finRowPost (c : Dev nD) (r : Fin 8) : sProp 𝕄 := iprop((finKeep c (lo r) ∗ finKeep c (hi r)) ∗ crd c (.inr (slO r)))

/-- Finishing a row: both blocks are written and the row's copy to the result is started. -/
theorem runs_finishRow (c : Dev nD) (r : Fin 8) (Q : PUnit → sProp 𝕄) :
    iprop(ctx m K ∗ owing c 0 ∗ finRowPre m c r ∗ (owing c 0 -∗ finRowPost c r -∗ Q ⟨⟩)) ⊢ runs c (finishRow r) Q := by
  unfold finishRow finRowPre finRowPost
  simp only [runs_bind]
  iintro ⟨#HC, Ho, ⟨⟨Hlo, Hhi⟩, Ht, Hh⟩, HQ⟩
  iapply (runs_finish m K c (lo r) _)
  isplitr; · iexact HC
  isplitl [Ho]; · iexact Ho
  isplitl [Hlo]; · iexact Hlo
  iintro Ho Hlo Hol
  iapply (runs_finish m K c (hi r) _)
  isplitr; · iexact HC
  isplitl [Ho]; · iexact Ho
  isplitl [Hhi]; · iexact Hhi
  iintro Ho Hhi Hoh
  ihave Hout := (join_row m c r) $$ [Hol Hoh]
  · isplitl [Hol] <;> iassumption
  unfold copyOut
  iapply (step_copy m K c (outVs r) (outHs r) (slO r) _ _ _ (credit_eq (outHs r)) (outRow m c r)
    (by unfold pay; iintro ⟨H1, H2⟩; isplitl [H1]; · iexact H1
        iapply (held_of_own c (outVs r) (outRow m c r)); iexact H2) Q)
  isplitr; · iexact HC
  isplitl [Hout]; · iexact Hout
  isplitl [Hh]; · iexact Hh
  isplitl [Ht]; · iexact Ht
  iintro Hc
  iapply HQ $$ Ho
  isplitl [Hlo Hhi]
  · isplitl [Hlo] <;> iassumption
  iexact Hc

/-! ## Draining -/

def outPost (c : Dev nD) (r : Fin 8) : sProp 𝕄 := iprop(pos1 c (.inr (slO r)) ∗ own c (outHs r) (outRow m c r) ∗ held c (outVs r))
/-- Waiting for a row's copy: the row of the result is in place. -/
theorem runs_waitOut (c : Dev nD) (r : Fin 8) (Q : PUnit → sProp 𝕄) :
    iprop(ctx m K ∗ owing c 0 ∗ (crd c (.inr (slO r)) ∗ pos0 c (.inr (slO r))) ∗ (owing c 0 -∗ outPost m c r -∗ Q ⟨⟩)) ⊢ runs c (waitOut r) Q := by
  unfold waitOut outPost
  iintro ⟨#HC, Ho, ⟨Hc, Hp⟩, HQ⟩
  iapply (step_wait m K c (outVs r) (outHs r) (slO r) _ _ (credit_eq (outHs r)) 0 (noWait c _) Q)
  isplitr; · iexact HC
  isplitl [Hc]; · iexact Hc
  isplitl [Hp]; · iexact Hp
  isplitl [Ho]; · iexact Ho
  iintro Ho Hp Hpay
  iapply HQ $$ Ho
  isplitl [Hp]; · iexact Hp
  iapply (pay_O m c r); iexact Hpay

def sentPre (c : Dev nD) (i : Fin 16) : sProp 𝕄 :=
  iprop((crd c (.inr (slSS i)) ∗ crd c (.inr (slQS i))) ∗ pos0 c (.inr (slSS i)) ∗ pos0 c (.inr (slQS i)))
def sentPost (c : Dev nD) (i : Fin 16) : sProp 𝕄 :=
  iprop(pos1 c (.inr (slSS i)) ∗ pos1 c (.inr (slQS i)) ∗ held c (sss i) ∗ held c (sqs i))
/-- Waiting until a block's codes and scale are read off: the sender's slots are free again. -/
theorem runs_waitSent (c : Dev nD) (i : Fin 16) (Q : PUnit → sProp 𝕄) :
    iprop(ctx m K ∗ owing c 0 ∗ sentPre c i ∗ (owing c 0 -∗ sentPost c i -∗ Q ⟨⟩)) ⊢ runs c (waitSent i) Q := by
  unfold waitSent sentPre sentPost
  rw [runs_bind]
  iintro ⟨#HC, Ho, ⟨⟨Hc1, Hc2⟩, Hp1, Hp2⟩, HQ⟩
  iapply (step_wait m K c (rqs i) (sqs i) (slQS i) _ _ (nQ_eq' i) 0 (noWait c _) _)
  isplitr; · iexact HC
  isplitl [Hc2]; · iexact Hc2
  isplitl [Hp2]; · iexact Hp2
  isplitl [Ho]; · iexact Ho
  iintro Ho Hp2 Hq
  iapply (step_wait m K c (rss i) (sss i) (slSS i) _ _ (nS_eq' i) 0 (noWait c _) Q)
  isplitr; · iexact HC
  isplitl [Hc1]; · iexact Hc1
  isplitl [Hp1]; · iexact Hp1
  isplitl [Ho]; · iexact Ho
  iintro Ho Hp1 Hs
  iapply HQ $$ Ho
  isplitl [Hp1]; · iexact Hp1
  isplitl [Hp2]; · iexact Hp2
  isplitl [Hs]; · iapply (pay_SS m c i); iexact Hs
  iapply (pay_QS m c i); iexact Hq

end Cert.Exchange

end
-- ==== Proof.Whole.lean ====
/-
# The whole body

The loops one after the other: from what the launch deals a device to what it gives back.
-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)
variable (K : Dev nD × CI → ℕ)

/-- Blocks, two by two. -/
def pairs : Fin 8 ⊕ Fin 8 ≃ Fin 16 := Equiv.ofBijective (Sum.elim lo hi) (by decide)
/-- Sixteen blocks are eight rows of two. -/
theorem bigSep_rows (Φ : Fin 16 → sProp 𝕄) : bigSep Finset.univ Φ = bigSep Finset.univ fun r : Fin 8 => iprop(Φ (lo r) ∗ Φ (hi r)) := by
  rw [bigSep_univ_equiv pairs, bigSep_univ_sum, bigSep_sep']
  rfl

/-- A family over `n + 1` indices is its first member and the rest. -/
theorem bigSep_first {n : ℕ} (Φ : Fin (n + 1) → sProp 𝕄) :
    bigSep Finset.univ Φ = iprop(Φ 0 ∗ bigSep (Finset.univ.filter fun i : Fin (n + 1) => 1 ≤ i.val) Φ) := by
  have h := from_cons (0 : Fin (n + 1)) Φ
  have e : (Finset.univ.filter fun j : Fin (n + 1) => (0 : Fin (n + 1)).val ≤ j.val) = Finset.univ :=
    Finset.filter_true_of_mem fun i _ => Nat.zero_le _
  rw [e] at h
  exact h

def startA (c : Dev nD) (r : Fin 8) : sProp 𝕄 := iprop(own c (aHs r) (chunkA m c r) ∗ held c (aVs r) ∗ tok c (.inr (slA r)))
def startB (c : Dev nD) (h : Fin 2) : sProp 𝕄 := iprop(own c (bHs h) (chunkB m c h) ∗ held c (bVs h) ∗ tok c (.inr (slB h)))
def startBar (c : Dev nD) : sProp 𝕄 := iprop(tok (peer c) bar ∗ pay m (peer c) bar ∗ crd c bar ∗ pos0 c bar)
def startFin (c : Dev nD) (i : Fin 16) : sProp 𝕄 :=
  iprop(crd c (.inr (slSR i)) ∗ pos0 c (.inr (slSR i)) ∗ crd c (.inr (slQR i)) ∗ pos0 c (.inr (slQR i)) ∗ held c (outB i))
def startSent (c : Dev nD) (i : Fin 16) : sProp 𝕄 := iprop(pos0 c (.inr (slSS i)) ∗ pos0 c (.inr (slQS i)))
def startO (c : Dev nD) (r : Fin 8) : sProp 𝕄 := iprop(tok c (.inr (slO r)) ∗ held c (outHs r))

/-- What the body starts from. -/
def bodyPre (c : Dev nD) : sProp 𝕄 :=
  iprop(bigSep Finset.univ (startA m c) ∗ bigSep Finset.univ (startB m c)
    ∗ bigSep Finset.univ (fun r => pos0 c (.inr (slA r))) ∗ bigSep Finset.univ (fun h => pos0 c (.inr (slB h)))
    ∗ startBar m c ∗ bigSep Finset.univ (blockOwn c) ∗ bigSep Finset.univ (startFin c) ∗ bigSep Finset.univ (startSent c)
    ∗ bigSep Finset.univ (startO c) ∗ bigSep Finset.univ (fun r => pos0 c (.inr (slO r))))
/-- What it ends with. -/
def bodyPost (c : Dev nD) : sProp 𝕄 :=
  iprop(pos1 c bar ∗ bigSep Finset.univ (gotA m c) ∗ bigSep Finset.univ (gotB m c) ∗ bigSep Finset.univ (finKeep c)
    ∗ bigSep Finset.univ (outPost m c) ∗ bigSep Finset.univ (sentPost c))

/-- A device asking for its number gets it. -/
theorem runs_deviceId (c : Dev nD) (Q : Dev nD → sProp 𝕄) : Q c ⊢ runs c (Prog.lift .deviceId) Q := by
  unfold runs Prog.lift
  rw [wp_deviceId, wp_ret]
  iintro H; imodintro; iexact H

/-- The rows' starts, from the pieces. -/
theorem rows_start (c : Dev nD) :
    iprop(bigSep Finset.univ (fun r => crd c (.inr (slA r))) ∗ bigSep Finset.univ (fun r => pos0 c (.inr (slA r)))
        ∗ bigSep Finset.univ (blockOwn c) ∗ bigSep Finset.univ (blockLand c)) ⊢ (bigSep Finset.univ (rowPre c) : sProp 𝕄) := by
  unfold rowPre
  rw [bigSep_rows (blockOwn c), bigSep_rows (blockLand c)]
  simp only [bigSep_sep']
  iintro ⟨H1, H2, ⟨H3, H4⟩, H5, H6⟩
  isplitl [H1 H2]
  · isplitl [H1] <;> iassumption
  isplitl [H3 H5]
  · isplitl [H3] <;> iassumption
  isplitl [H4] <;> iassumption

/-- What all rows leave: the operand's chunks, the partial product, and the credits for what was sent. -/
theorem rows_end (c : Dev nD) :
    bigSep Finset.univ (rowPost m c) ⊢ iprop(bigSep Finset.univ (gotA m c) ∗ bigSep Finset.univ (fun i => own c (accB i) (partialBlk m c i))
      ∗ bigSep Finset.univ (fun i => iprop(crd c (.inr (slSS i)) ∗ crd c (.inr (slQS i))))) := by
  have h : bigSep Finset.univ (rowPost m c) = iprop(bigSep Finset.univ (gotA m c) ∗ bigSep Finset.univ (blockPost m c)) := by
    unfold rowPost
    rw [bigSep_sep', ← bigSep_rows (blockPost m c)]
  rw [h]
  unfold blockPost
  simp only [bigSep_sep']
  exact .rfl

/-- What finishing the rows starts from. -/
theorem fin_start (c : Dev nD) :
    iprop(bigSep Finset.univ (startFin c) ∗ bigSep Finset.univ (fun i => own c (accB i) (partialBlk m c i)) ∗ bigSep Finset.univ (startO c))
      ⊢ bigSep Finset.univ (finRowPre m c) := by
  have h : bigSep Finset.univ (finRowPre m c) = iprop(bigSep Finset.univ (finPre m c) ∗ bigSep Finset.univ (startO c)) := by
    unfold finRowPre startO
    rw [bigSep_sep', ← bigSep_rows (finPre m c)]
  have h' : bigSep Finset.univ (finPre m c) = iprop(bigSep Finset.univ (startFin c) ∗ bigSep Finset.univ (fun i => own c (accB i) (partialBlk m c i))) :=
    bigSep_sep' Finset.univ (startFin c) fun i => own c (accB i) (partialBlk m c i)
  rw [h, h']
  iintro ⟨H1, H2, H3⟩
  isplitl [H1 H2]
  · isplitl [H1] <;> iassumption
  iexact H3

/-- What finishing the rows leaves. -/
theorem fin_end (c : Dev nD) :
    bigSep Finset.univ (finRowPost c) ⊢ (iprop(bigSep Finset.univ (finKeep c) ∗ bigSep Finset.univ (fun r => crd c (.inr (slO r)))) : sProp 𝕄) := by
  unfold finRowPost
  rw [bigSep_sep', ← bigSep_rows (finKeep c)]

/-- The whole program of one device. -/
theorem runs_prog (c : Dev nD) (Q : PUnit → sProp 𝕄) :
    iprop(ctx m K ∗ owing c (O₀ c) ∗ bodyPre m c ∗ (owing c 0 -∗ bodyPost m c -∗ Q ⟨⟩)) ⊢ runs c prog Q := by
  unfold prog bodyPre bodyPost startBar
  simp only [runs_bind]
  iintro ⟨#HC, Ho, ⟨HA, HB, HpA, HpB, ⟨Htb, Hpb, Hcb, H0b⟩, Hblk, Hfin, Hsent, HO, HpO⟩, HQ⟩
  iapply (runs_deviceId c _)
  -- the copies of the operands
  iapply (runs_all c copyB (ctx m K) (fun _ => iprop(emp)) (startB m c) (fun h => crd c (.inr (slB h))) (runs_copyB m K c) _)
  isplitr; · iexact HC
  isplitr; · iempintro
  isplitl [HB]; · iexact HB
  iintro - HcB
  iapply (runs_all c copyA (ctx m K) (fun _ => iprop(emp)) (startA m c) (fun r => crd c (.inr (slA r))) (runs_copyA m K c) _)
  isplitr; · iexact HC
  isplitr; · iempintro
  isplitl [HA]; · iexact HA
  iintro - HcA
  -- the barrier
  iapply (runs_meet m K c _)
  isplitr; · iexact HC
  isplitl [Ho]; · iexact Ho
  isplitl [Htb]; · iexact Htb
  isplitl [Hpb]; · iexact Hpb
  isplitl [Hcb]; · iexact Hcb
  isplitl [H0b]; · iexact H0b
  iintro Ho H1b Hland
  ihave Hland := (show pay m c bar ⊢ bigSep Finset.univ (blockLand c) from .rfl) $$ Hland
  ihave Hrows := (rows_start c) $$ [HcA HpA Hblk Hland]
  · isplitl [HcA]; · iexact HcA
    isplitl [HpA]; · iexact HpA
    isplitl [Hblk] <;> iassumption
  ihave Hrows := (Entails.of_eq (bigSep_first (rowPre c))) $$ Hrows
  ihave HcB := (Entails.of_eq (bigSep_univ_two fun h => crd c (.inr (slB h)))) $$ HcB
  ihave HpB := (Entails.of_eq (bigSep_univ_two fun h => pos0 c (.inr (slB h)))) $$ HpB
  unfold rowPre
  icases Hrows with ⟨⟨⟨HcA0, HpA0⟩, Hlo, Hhi⟩, Hrows⟩
  icases HcB with ⟨HcB0, HcB1⟩
  icases HpB with ⟨HpB0, HpB1⟩
  -- the first row chunk
  iapply (runs_getA m K c 0 0 _)
  isplitr; · iexact HC
  isplitl [Ho]; · iexact Ho
  isplitl [HcA0]; · iexact HcA0
  isplitl [HpA0]; · iexact HpA0
  iintro Ho HgA0
  iapply (runs_getB m K c 0 0 _)
  isplitr; · iexact HC
  isplitl [Ho]; · iexact Ho
  isplitl [HcB0]; · iexact HcB0
  isplitl [HpB0]; · iexact HpB0
  iintro Ho HgB0
  iapply (runs_lo m K c 0 _)
  isplitr; · iexact HC
  isplitl [Ho]; · iexact Ho
  isplitl [Hlo]; · iexact Hlo
  iintro Ho Hlo
  iapply (runs_getB m K c 1 1 _)
  isplitr; · iexact HC
  isplitl [Ho]; · iexact Ho
  isplitl [HcB1]; · iexact HcB1
  isplitl [HpB1]; · iexact HpB1
  iintro Ho HgB1
  iapply (runs_hi m K c 0 _)
  isplitr; · iexact HC
  isplitl [Ho]; · iexact Ho
  isplitl [Hhi]; · iexact Hhi
  iintro Ho Hhi
  -- the other row chunks
  iapply (runs_each c (row c (chunkB m c 0) (chunkB m c 1)) (ctx m K) (fun r => owing c (owedFrom c (2 * r))) (rowPre c) (rowPost m c) (runs_row m K c) 7 _ _)
  isplitr; · iexact HC
  isplitl [Ho]; · iexact Ho
  isplitl [Hrows]; · unfold rowPre; iexact Hrows
  iintro Ho Hrows
  ihave Hall := (Entails.of_eq (bigSep_first (rowPost m c)).symm) $$ [HgA0 Hlo Hhi Hrows]
  · isplitl [HgA0 Hlo Hhi]
    · unfold rowPost gotA
      isplitl [HgA0]; · iexact HgA0
      isplitl [Hlo] <;> iassumption
    iexact Hrows
  ihave Hall := (rows_end m c) $$ Hall
  icases Hall with ⟨HgA, Hacc, HcS⟩
  -- the result
  ihave Ho := (show owing c (owedFrom c (2 * 8)) ⊢ (owing c 0 : sProp 𝕄) from Entails.of_eq (congrArg (fun O => owing c O) (owedFrom_end c))) $$ Ho
  iapply (runs_all c finishRow (ctx m K) (fun _ => owing c 0) (finRowPre m c) (finRowPost c) (runs_finishRow m K c) _)
  isplitr; · iexact HC
  isplitl [Ho]; · iexact Ho
  isplitl [Hfin Hacc HO]
  · iapply (fin_start m c)
    isplitl [Hfin]; · iexact Hfin
    isplitl [Hacc] <;> iassumption
  iintro Ho Hfin
  ihave Hfin := (fin_end c) $$ Hfin
  icases Hfin with ⟨Hkeep, HcO⟩
  iapply (runs_all c waitOut (ctx m K) (fun _ => owing c 0) (fun r => iprop(crd c (.inr (slO r)) ∗ pos0 c (.inr (slO r)))) (outPost m c) (runs_waitOut m K c) _)
  isplitr; · iexact HC
  isplitl [Ho]; · iexact Ho
  isplitl [HcO HpO]
  · rw [bigSep_sep']; isplitl [HcO] <;> iassumption
  iintro Ho Hout
  iapply (runs_all c waitSent (ctx m K) (fun _ => owing c 0) (sentPre c) (sentPost c) (runs_waitSent m K c) _)
  isplitr; · iexact HC
  isplitl [Ho]; · iexact Ho
  isplitl [HcS Hsent]
  · unfold sentPre startSent; rw [bigSep_sep' Finset.univ (fun i => iprop(crd c (.inr (slSS i)) ∗ crd c (.inr (slQS i))))]; isplitl [HcS] <;> iassumption
  iintro Ho Hdone
  iapply HQ $$ Ho
  isplitl [H1b]; · iexact H1b
  isplitl [HgA]; · iexact HgA
  isplitl [HgB0 HgB1]
  · rw [bigSep_univ_two]; unfold gotB; isplitl [HgB0] <;> iassumption
  isplitl [Hkeep]; · iexact Hkeep
  isplitl [Hout] <;> iassumption

end Cert.Exchange

end
-- ==== Proof.Ghost.lean ====
/-
# What the launch deals

The cells of every device put under the schedule, the tokens handed to the devices that pay with them, the first credit.
-/
module

public import proofs.«01_k».proof.Proof.Whole

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## Families over the cells -/

/-- A family over a device's cells, kind by kind. -/
theorem bigSep_cells (Φ : CI → sProp 𝕄) : bigSep Finset.univ Φ = iprop(Φ bar
    ∗ bigSep Finset.univ (fun r => Φ (.inr (slA r))) ∗ bigSep Finset.univ (fun h => Φ (.inr (slB h))) ∗ bigSep Finset.univ (fun r => Φ (.inr (slO r)))
    ∗ bigSep Finset.univ (fun i => Φ (.inr (slQS i))) ∗ bigSep Finset.univ (fun i => Φ (.inr (slQR i)))
    ∗ bigSep Finset.univ (fun i => Φ (.inr (slSS i))) ∗ bigSep Finset.univ (fun i => Φ (.inr (slSR i)))) := by
  rw [bigSep_univ_sum Φ, bigSep_univ_sum fun x => Φ (.inr x), bigSep_univ_sum fun x => Φ (.inr (.inr x)), bigSep_univ_sum fun x => Φ (.inr (.inr (.inr x))),
    bigSep_univ_sum fun x => Φ (.inr (.inr (.inr (.inr x)))), bigSep_univ_sum fun x => Φ (.inr (.inr (.inr (.inr (.inr x))))),
    bigSep_univ_sum fun x => Φ (.inr (.inr (.inr (.inr (.inr (.inr x)))))), show (Finset.univ : Finset Unit) = {()} from rfl, bigSep_singleton]
  rfl

/-- Whose token of cell kind `x` device `c` holds: the peer's where `c` pays a cell of the peer's. -/
def payee (c : Dev nD) : CI → Dev nD
  | .inl _ => peer c
  | .inr (.inr (.inr (.inr (.inr (.inl _))))) => peer c
  | .inr (.inr (.inr (.inr (.inr (.inr (.inr _)))))) => peer c
  | _ => c
/-- Going to the payer of a cell twice leads back. -/
theorem payee_payee (c : Dev nD) (x : CI) : payee (payee c x) x = c := by
  rcases x with _ | _ | _ | _ | _ | _ | _ | _
  exacts [peer_peer c, rfl, rfl, rfl, rfl, peer_peer c, rfl, peer_peer c]
/-- The tokens changing hands. -/
def hands : Dev nD × CI ≃ Dev nD × CI where
  toFun cx := (payee cx.1 cx.2, cx.2)
  invFun cx := (payee cx.1 cx.2, cx.2)
  left_inv cx := Prod.ext (payee_payee cx.1 cx.2) rfl
  right_inv cx := Prod.ext (payee_payee cx.1 cx.2) rfl

/-- Different device and cell, different semaphore. -/
theorem cell_injective : Function.Injective (fun ck : Dev nD × CI => cell ck.1 ck.2) := by
  rintro ⟨c, x⟩ ⟨c', x'⟩ h
  have h1 : c = c' := congrArg (fun g : GSem nD τ sig => g.1.1) h
  have h2 : csem x = csem x' := congrArg Prod.snd h
  have h3 : x = x' := by rw [← ciOf_csem x, ← ciOf_csem x', h2]
  exact Prod.ext h1 h3
/-- Different device and cell, different token. -/
theorem tok_injective : Function.Injective (fun ck : Dev nD × CI => ((cell ck.1 ck.2, 0, ()) : GSem nD τ sig × ℕ × Unit)) :=
  fun a b h => cell_injective (congrArg Prod.fst h)
def allCells : Finset (GSem nD τ sig) := Finset.univ.map ⟨_, cell_injective⟩
def allToks : Finset (GSem nD τ sig × ℕ × Unit) := Finset.univ.map ⟨_, tok_injective⟩

/-- The ghost state the run starts from. -/
def u₀ : UU := (initOf (Pipeline.cells cfgs cellOf_inj) (Pipeline.launchToks cfgs cellOf_inj), initOf allCells allToks)

/-- What is dealt to device `c` before the cells are put under the schedule. -/
def G (c : Dev nD) : sProp 𝕄 :=
  iprop((bigSep Finset.univ fun x : CI => roundState ER (sched m) (cell c x) 0)
    ∗ (bigSep Finset.univ fun x : CI => pos0 c x) ∗ (bigSep Finset.univ fun x : CI => reached ER (cell c x) 0) ∗ bigSep Finset.univ fun x : CI => tok c x)
/-- What it holds for the run. -/
def mine (c : Dev nD) : sProp 𝕄 := iprop((bigSep Finset.univ fun x : CI => pos0 c x) ∗ bigSep Finset.univ fun x : CI => tok (payee c x) x)
def G' (c : Dev nD) : sProp 𝕄 := iprop((∃ K, records m K) ∗ mine c)

/-- The initial resource deals every device its positions and its tokens. -/
theorem deal : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun x : CI => Φ (cell c x) := by
    unfold allCells; rw [bigSep_map, bigSep_univ_prod]; rfl
  have hT : bigSep allToks (fun x => (dutyTok ER x.1 x.2.1 x.2.2 : sProp 𝕄)) = bigSep Finset.univ fun c : Dev nD => bigSep Finset.univ fun x : CI => tok c x := by
    unfold allToks; rw [bigSep_map, bigSep_univ_prod]; rfl
  iintro H
  imod (Rounds.fund ER (sched m) allCells allToks) $$ H with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr] <;> iassumption

/-- The kernel's own semaphores: the transfers'. -/
abbrev osem (x : Slot) : SemLoc sig := csem (.inr x)
/-- Every transfer semaphore belongs to the launch. -/
theorem dma_isScoped : ∀ k : DmaSem sig, (SemLoc.dma k : SemLoc sig).isScoped .tc = true := by decide +kernel
/-- The launch's own semaphores are the transfer semaphores, one for every slot. -/
theorem ownSemFacts : Pipeline.OwnSemFacts cfg0.spec osem where
  isScoped x := dma_isScoped (dsem x)
  inj x y h := by
    have h := congrArg ciOf h
    rw [ciOf_csem, ciOf_csem] at h
    exact Sum.inr.inj h
  disj _ w := w.elim0

/-- The one semaphore outside the launch is the barrier. -/
theorem unscopedSems0_eq (c : Dev nD) : (unscopedSems0 c : sProp 𝕄) = semVal (cell c bar) 0 := by
  unfold unscopedSems0; rw [bigSep_eq_bigSepL_of_eq [SemLoc.reg barS] (by decide +kernel) (by decide +kernel)]; rfl

/-- The semaphores at zero are all the cells at zero. -/
theorem sems_eq (c : Dev nD) :
    (bigSep Finset.univ fun x : CI => semVal (cell c x) 0 : sProp 𝕄)
      = iprop(unscopedSems0 c ∗ Pipeline.ownSems0 (Ix := Unit) (Name := ℕ) (U := UU) (Lvl := ℕ) (Val := Elt F) (τ := τ) osem c) := by
  rw [unscopedSems0_eq, bigSep_univ_sum, show (Finset.univ : Finset Unit) = {()} from rfl, bigSep_singleton]; rfl

/-- One device's semaphores at zero become its cells under the schedule. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x => iprop(∃ κ : ℕ, cellInv ER (sched m) κ (cell c x)))
          ∗ (bigSep Finset.univ fun x : CI => pos0 c x) ∗ (bigSep Finset.univ fun x : CI => reached ER (cell c x) 0) ∗ bigSep Finset.univ fun x : CI => tok c x) := by
  unfold G
  iintro ⟨Hos, Hus, Hst, Hrest⟩
  ihave Hv := (Entails.of_eq (sems_eq (F := F) c).symm) $$ [Hos Hus]
  · isplitl [Hus] <;> iassumption
  imod (show iprop((bigSep Finset.univ fun x : CI => semVal (cell c x) 0) ∗ bigSep Finset.univ fun x : CI => roundState ER (sched m) (cell c x) 0)
      ⊢ (|={Set.univ}=> bigSep Finset.univ fun x => iprop(∃ κ : ℕ, cellInv ER (sched m) κ (cell c x)) : sProp 𝕄) from by
        rw [← bigSep_sep']
        exact (bigSep_mono fun x _ => (Rounds.body_intro ER (sched m) (cell c x)).trans inv_alloc).trans (bigSep_fupd _ _)) $$ [Hv Hst] with Hinv
  · isplitl [Hv] <;> iassumption
  imodintro
  isplitl [Hinv] <;> iassumption

/-- A shared fact may be used beside every member of a family. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The tokens, each to the device that pays with it. -/
theorem toks_hands : (bigSep Finset.univ fun c : Dev nD => bigSep Finset.univ fun x : CI => (tok c x : sProp 𝕄))
    = bigSep Finset.univ fun c : Dev nD => bigSep Finset.univ fun x : CI => tok (payee c x) x := by
  rw [← bigSep_univ_prod (fun ck : Dev nD × CI => (tok ck.1 ck.2 : sProp 𝕄)), bigSep_univ_equiv hands, ← bigSep_univ_prod (fun ck : Dev nD × CI => (tok (payee ck.1 ck.2) ck.2 : sProp 𝕄))]
  rfl

/-- The devices' cells, positions and tokens, regrouped: the records are shared, each token goes to who pays with it. -/
theorem regroup :
    (bigSep Finset.univ fun c : Dev nD => iprop((bigSep Finset.univ fun x => iprop(∃ κ : ℕ, cellInv ER (sched m) κ (cell c x)))
          ∗ (bigSep Finset.univ fun x : CI => pos0 c x) ∗ (bigSep Finset.univ fun x : CI => reached ER (cell c x) 0) ∗ bigSep Finset.univ fun x : CI => tok c x) : sProp 𝕄)
      ⊢ bigSep Finset.univ (G' m) := by
  rw [bigSep_sep', bigSep_sep', bigSep_sep', toks_hands, ← bigSep_univ_prod (fun ck : Dev nD × CI => iprop(∃ κ : ℕ, cellInv ER (sched m) κ (cell ck.1 ck.2))),
    ← bigSep_univ_prod (fun ck : Dev nD × CI => (reached ER (cell ck.1 ck.2) 0 : sProp 𝕄))]
  iintro ⟨HI, Hat, #HR, Htok⟩
  ihave HK := (BI.bigSep_exists_pi Finset.univ (fun (ck : Dev nD × CI) (κ : ℕ) => (cellInv ER (sched m) κ (cell ck.1 ck.2) : sProp 𝕄))) $$ HI
  icases HK with ⟨%K, #HI⟩
  iapply (bigSep_beside (R := records m K) (Φ := mine) (Ψ := G' m) fun c _ => by
    unfold G'
    iintro ⟨H1, H2⟩
    isplitl [H1]; · iexists K; iexact H1
    iexact H2)
  isplitr
  · unfold records; isplitl; · iexact HI
    iexact HR
  · unfold mine
    rw [bigSep_sep']
    isplitl [Hat] <;> iassumption

/-- All the cells of all the devices put under the schedule at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- The credit a device starts with: what its peer owes its cells. -/
theorem creds (c : Dev nD) :
    (Pipeline.launchCred O₀ c : sProp 𝕄) ⊢ iprop(crd c bar ∗ bigSep Finset.univ (fun i => crd c (.inr (slQR i))) ∗ bigSep Finset.univ (fun i => crd c (.inr (slSR i)))) := by
  have one (x : CI) : (Pipeline.launchCred (fun d => tallyAt (cell (peer d) x) () (amt x)) c : sProp 𝕄) ⊢ crd c x :=
    Pipeline.launchCred_tallyAt (csem x) peer peer peer_peer peer_peer () (amt x) c
  have e : (Finset.univ.filter fun i : Fin 16 => 0 ≤ i.val) = Finset.univ := Finset.filter_true_of_mem fun i _ => Nat.zero_le _
  have h1 : (Pipeline.launchCred O₀ c : sProp 𝕄) = iprop(Pipeline.launchCred (fun d => owedFrom d 0) c ∗ Pipeline.launchCred (fun d => tallyAt (cell (peer d) bar) () (amt bar)) c) :=
    Pipeline.launchCred_add (fun d => owedFrom d 0) (fun d => tallyAt (cell (peer d) bar) () (amt bar)) c
  have h2 : (Pipeline.launchCred (fun d => owedFrom d 0) c : sProp 𝕄) = bigSep Finset.univ fun i : Fin 16 => Pipeline.launchCred (fun d => owed1 d i) c := by
    unfold owedFrom; rw [e]; exact Pipeline.launchCred_sum Finset.univ (fun i d => owed1 d i) c
  have h3 (i : Fin 16) : (Pipeline.launchCred (fun d => owed1 d i) c : sProp 𝕄) ⊢ iprop(crd c (.inr (slQR i)) ∗ crd c (.inr (slSR i))) := by
    have h : (Pipeline.launchCred (fun d => owed1 d i) c : sProp 𝕄) = iprop(Pipeline.launchCred (fun d => tallyAt (cell (peer d) (.inr (slQR i))) () (amt (.inr (slQR i)))) c
        ∗ Pipeline.launchCred (fun d => tallyAt (cell (peer d) (.inr (slSR i))) () (amt (.inr (slSR i)))) c) :=
      Pipeline.launchCred_add (fun d => tallyAt (cell (peer d) (.inr (slQR i))) () (amt (.inr (slQR i)))) (fun d => tallyAt (cell (peer d) (.inr (slSR i))) () (amt (.inr (slSR i)))) c
    rw [h]
    exact BIClass.sep_mono (one _) (one _)
  rw [h1, h2]
  iintro ⟨H, Hb⟩
  isplitl [Hb]; · iapply (one bar); iexact Hb
  ihave H := (show (bigSep Finset.univ fun i : Fin 16 => Pipeline.launchCred (fun d => owed1 d i) c)
    ⊢ bigSep Finset.univ fun i => iprop(crd c (.inr (slQR i)) ∗ crd c (.inr (slSR i))) from bigSep_mono fun i _ => h3 i) $$ H
  iapply (Entails.of_eq (bigSep_sep' Finset.univ (fun i => crd c (.inr (slQR i))) (fun i => (crd c (.inr (slSR i)) : sProp 𝕄))))
  iexact H

end Cert.Exchange

end
-- ==== Proof.BodyEq.lean ====
/-
# The printed body is the program written over indices
-/
module

public import proofs.«01_k».proof.Proof.Program
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.Sem

variable {F : FTy → Type} [FloatOps F]

set_option maxRecDepth 65536 in
set_option maxHeartbeats 4000000 in
/-- The printed body is the program above. -/
theorem body_eq : cc0_body (F := F) aH (Memref.isWhole_whole _) bH (Memref.isWhole_whole _) outH (Memref.isWhole_whole _)
    aV (Memref.isWhole_whole _) bV (Memref.isWhole_whole _) accV (Memref.isWhole_whole _) outV (Memref.isWhole_whole _)
    sqV (Memref.isWhole_whole _) rqV (Memref.isWhole_whole _) ssV (Memref.isWhole_whole _) rsV (Memref.isWhole_whole _)
    cc0_scratch8 cc0_scratch9 cc0_scratch10 cc0_scratch11 cc0_scratch12 cc0_scratch13 cc0_scratch14 = prog := rfl

end Cert.Exchange

end
-- ==== Proof.Launch.lean ====
/-
# The run

The body between what the launch deals and what it takes back, and the run of the whole machine.
-/
module

public import proofs.«01_k».proof.Proof.Ghost
public import Idealize.ShloMosaic.Lib.Pipeline.CollectiveSegs
public import proofs.«01_k».proof.Proof.BodyEq
public import proofs.«01_k».proof.Proof.Gen.KernelIdeal.Points

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## Before the body -/

/-- What a device has at the start besides its scratch buffers: the records, its positions and tokens, its credit, the
    two operands and the array of the result. -/
def start (c : Dev nD) : sProp 𝕄 :=
  iprop((∃ K, records m K) ∗ levAts L lv ∗ mine c
    ∗ (crd c bar ∗ bigSep Finset.univ (fun i => crd c (.inr (slQR i))) ∗ bigSep Finset.univ (fun i => crd c (.inr (slSR i))))
    ∗ own c aH (argA m c) ∗ own c bH (argB m c) ∗ held c outH)
/-- Its scratch buffers. -/
def scratch (c : Dev nD) : sProp 𝕄 :=
  iprop(held c aV ∗ held c bV ∗ held c accV ∗ held c outV ∗ held c sqV ∗ held c rqV ∗ held c ssV ∗ held c rsV)

/-- The left operand is its row chunks. -/
theorem cut_argA (c : Dev nD) : own c aH (argA m c) ⊢ bigSep Finset.univ fun r => own c (aHs r) (chunkA m c r) :=
  own_cut cut_rA (fun _ _ => rfl) c aH (argA m c)
/-- The row chunks make up the left operand. -/
theorem join_argA (c : Dev nD) : bigSep Finset.univ (fun r => own c (aHs r) (chunkA m c r)) ⊢ own c aH (argA m c) :=
  own_join cut_rA (fun _ _ => rfl) c aH (argA m c)
/-- The right operand is its column halves. -/
theorem cut_argB (c : Dev nD) : own c bH (argB m c) ⊢ bigSep Finset.univ fun h => own c (bHs h) (chunkB m c h) :=
  own_cut cut_rB (fun _ _ => rfl) c bH (argB m c)
/-- The column halves make up the right operand. -/
theorem join_argB (c : Dev nD) : bigSep Finset.univ (fun h => own c (bHs h) (chunkB m c h)) ⊢ own c bH (argB m c) :=
  own_join cut_rB (fun _ _ => rfl) c bH (argB m c)
/-- The rows of the result make up the result. -/
theorem join_out (c : Dev nD) : bigSep Finset.univ (fun r => own c (outHs r) (outRow m c r)) ⊢ own c outH (outArr m c) :=
  own_join cut_rO (fun _ _ => rfl) c outH (outArr m c)

/-- The landing buffers are what the barrier's signal hands the peer. -/
theorem pay_bar (c : Dev nD) :
    iprop(bigSep Finset.univ (fun i => held c (rss i)) ∗ bigSep Finset.univ (fun i => held c (rqs i))) ⊢ (pay m (peer c) bar : sProp 𝕄) := by
  rw [← bigSep_sep']
  show _ ⊢ bigSep Finset.univ fun i : Fin 16 => iprop(held (peer (peer c)) (rss i) ∗ held (peer (peer c)) (rqs i))
  rw [peer_peer]

/-- What a device holds at the launch is what its program starts from. -/
theorem body_start (c : Dev nD) :
    iprop(mine c ∗ (crd c bar ∗ bigSep Finset.univ (fun i => crd c (.inr (slQR i))) ∗ bigSep Finset.univ (fun i => crd c (.inr (slSR i))))
      ∗ own c aH (argA m c) ∗ own c bH (argB m c) ∗ held c outH ∗ scratch c) ⊢ bodyPre m c := by
  unfold mine scratch bodyPre startBar
  rw [bigSep_cells (fun x => pos0 c x), bigSep_cells (fun x => tok (payee c x) x)]
  iintro ⟨⟨⟨pBar, pA, pB, pO, pQS, pQR, pSS, pSR⟩, tBar, tA, tB, tO, tQS, tQR, tSS, tSR⟩, ⟨cBar, cQR, cSR⟩, Ha, Hb, Ho, Va, Vb, Vacc, Vout, Vsq, Vrq, Vss, Vrs⟩
  ihave Ha := (cut_argA m c) $$ Ha
  ihave Hb := (cut_argB m c) $$ Hb
  ihave Ho := (held_cut cut_rO (fun _ _ => rfl) c outH) $$ Ho
  ihave Va := (held_cut cut_rA (fun _ _ => rfl) c aV) $$ Va
  ihave Vb := (held_cut cut_rB (fun _ _ => rfl) c bV) $$ Vb
  ihave Vacc := (held_cut mem_rC (fun _ _ => rfl) c accV) $$ Vacc
  ihave Vout := (held_cut mem_rC (fun _ _ => rfl) c outV) $$ Vout
  ihave Vsq := (held_cut mem_rC (fun _ _ => rfl) c sqV) $$ Vsq
  ihave Vrq := (held_cut mem_rC (fun _ _ => rfl) c rqV) $$ Vrq
  ihave Vss := (held_cut cut_rS (fun _ _ => rfl) c ssV) $$ Vss
  ihave Vrs := (held_cut cut_rS (fun _ _ => rfl) c rsV) $$ Vrs
  isplitl [Ha Va tA]
  · unfold startA
    simp only [bigSep_sep']
    isplitl [Ha]; · iexact Ha
    isplitl [Va]; · iexact Va
    iexact tA
  isplitl [Hb Vb tB]
  · unfold startB
    simp only [bigSep_sep']
    isplitl [Hb]; · iexact Hb
    isplitl [Vb]; · iexact Vb
    iexact tB
  isplitl [pA]; · iexact pA
  isplitl [pB]; · iexact pB
  isplitl [tBar Vrq Vrs cBar pBar]
  · isplitl [tBar]; · iexact tBar
    isplitl [Vrq Vrs]
    · iapply (pay_bar m c)
      isplitl [Vrs]; · iexact Vrs
      iexact Vrq
    isplitl [cBar] <;> iassumption
  isplitl [Vacc Vss Vsq tSS tQS tSR tQR]
  · unfold blockOwn
    simp only [bigSep_sep']
    isplitl [Vacc]; · iexact Vacc
    isplitl [Vss]; · iexact Vss
    isplitl [Vsq]; · iexact Vsq
    isplitl [tSS]; · iexact tSS
    isplitl [tQS]; · iexact tQS
    isplitl [tSR]; · iexact tSR
    iexact tQR
  isplitl [cSR pSR cQR pQR Vout]
  · unfold startFin
    simp only [bigSep_sep']
    isplitl [cSR]; · iexact cSR
    isplitl [pSR]; · iexact pSR
    isplitl [cQR]; · iexact cQR
    isplitl [pQR]; · iexact pQR
    iexact Vout
  isplitl [pSS pQS]
  · unfold startSent
    simp only [bigSep_sep']
    isplitl [pSS] <;> iassumption
  isplitl [tO Ho]
  · unfold startO
    simp only [bigSep_sep']
    isplitl [tO]; · iexact tO
    iexact Ho
  iexact pO

/-! ## After it -/

/-- What a device has at the end besides its scratch buffers and its semaphores. -/
def arrays (c : Dev nD) : sProp 𝕄 := iprop(own c aH (argA m c) ∗ own c bH (argB m c) ∗ own c outH (outArr m c))

/-- What the program ends with: all rounds over, the arrays and the scratch buffers. -/
theorem body_end (c : Dev nD) : bodyPost m c ⊢ iprop((bigSep Finset.univ fun x : CI => pos1 c x) ∗ arrays m c ∗ scratch c) := by
  unfold bodyPost gotA gotB finKeep outPost sentPost arrays scratch
  rw [bigSep_cells (fun x => pos1 c x)]
  simp only [bigSep_sep']
  iintro ⟨pBar, ⟨pA, Va, Ha⟩, ⟨pB, Vb, Hb⟩, ⟨pSR, pQR, Vrs, Vrq, Vacc⟩, ⟨pO, Ho, Vout⟩, pSS, pQS, Vss, Vsq⟩
  ihave Ha := (join_argA m c) $$ Ha
  ihave Hb := (join_argB m c) $$ Hb
  ihave Ho := (join_out m c) $$ Ho
  ihave Va := (show bigSep Finset.univ (fun t => held c (aVs t)) ⊢ held c aV from held_join cut_rA (fun _ _ => rfl) c aV) $$ Va
  ihave Vb := (show bigSep Finset.univ (fun t => held c (bVs t)) ⊢ held c bV from held_join cut_rB (fun _ _ => rfl) c bV) $$ Vb
  ihave Vacc := (show bigSep Finset.univ (fun t => held c (accB t)) ⊢ held c accV from held_join mem_rC (fun _ _ => rfl) c accV) $$ Vacc
  ihave Vout := (show bigSep Finset.univ (fun t => held c (outVs t)) ⊢ held c outV from held_join cut_rO (fun _ _ => rfl) c outV) $$ Vout
  ihave Vsq := (show bigSep Finset.univ (fun t => held c (sqs t)) ⊢ held c sqV from held_join mem_rC (fun _ _ => rfl) c sqV) $$ Vsq
  ihave Vrq := (show bigSep Finset.univ (fun t => held c (rqs t)) ⊢ held c rqV from held_join mem_rC (fun _ _ => rfl) c rqV) $$ Vrq
  ihave Vss := (show bigSep Finset.univ (fun t => held c (sss t)) ⊢ held c ssV from held_join cut_rS (fun _ _ => rfl) c ssV) $$ Vss
  ihave Vrs := (show bigSep Finset.univ (fun t => held c (rss t)) ⊢ held c rsV from held_join cut_rS (fun _ _ => rfl) c rsV) $$ Vrs
  isplitl [pBar pA pB pSR pQR pO pSS pQS]
  · isplitl [pBar]; · iexact pBar
    isplitl [pA]; · iexact pA
    isplitl [pB]; · iexact pB
    isplitl [pO]; · iexact pO
    isplitl [pQS]; · iexact pQS
    isplitl [pQR]; · iexact pQR
    isplitl [pSS]; · iexact pSS
    iexact pSR
  isplitl [Ha Hb Ho]
  · isplitl [Ha]; · iexact Ha
    isplitl [Hb]; · iexact Hb
    iexact Ho
  isplitl [Va]; · iexact Va
  isplitl [Vb]; · iexact Vb
  isplitl [Vacc]; · iexact Vacc
  isplitl [Vout]; · iexact Vout
  isplitl [Vsq]; · iexact Vsq
  isplitl [Vrq]; · iexact Vrq
  isplitl [Vss] <;> iassumption

/-- Every cell is through its round, so its semaphore is back at zero. -/
theorem close_cells (K : Dev nD × CI → ℕ) (c : Dev nD) :
    iprop(records m K ∗ bigSep Finset.univ fun x : CI => pos1 c x) ⊢ |={Set.univ}=> bigSep Finset.univ fun x : CI => (semVal (cell c x) 0 : sProp 𝕄) :=
  (bigSep_beside (Ψ := fun x => iprop(cellInv ER (sched m) (K (c, x)) (cell c x) ∗ atPos ER (cell c x) (0 + 1) ∅ 0)) fun x _ =>
      BIClass.sep_mono (records_inv m K c x) .rfl).trans
    (Rounds.cells_close ER (sched m) Finset.univ (cell c) (fun x => K (c, x)) (fun _ _ => Set.mem_univ _) (fun _ _ h => h) (fun _ => 0 + 1)
      fun x _ => duties_later m (cell c x))

/-! ## The run of the body in the launch -/

def Φ₀ (c : Dev nD) : sProp 𝕄 := iprop(start m c ∗ scratch c)
def Φ₁ (c : Dev nD) : sProp 𝕄 := iprop((bigSep Finset.univ fun x : CI => semVal (cell c x) 0) ∗ arrays m c ∗ scratch c)

def dats (_ : Fin 1) (c : Dev nD) : Pipeline.Dat τ (Elt F) Unit ℕ UU ℕ cfg0 c where
  A w := w.elim0
  after w := w.elim0
  Φ t := match t with
    | ⟨0, _⟩ => Φ₀ m c
    | ⟨_ + 1, _⟩ => Φ₁ m c
  q w := w.elim0
  owed t := match t with
    | ⟨0, _⟩ => O₀ c
    | ⟨_ + 1, _⟩ => 0

/-- An update may be done at the end of a program. -/
theorem runs_fupd (c : Dev nD) (p : P F PUnit) (Q : PUnit → sProp 𝕄) : runs c p (fun a => iprop(|={Set.univ}=> Q a)) ⊢ runs c p Q :=
  wp_fupd _ _ _ p Q
/-- A program that establishes `Q` establishes what follows from `Q`. -/
theorem runs_mono (c : Dev nD) (p : P F PUnit) (Q R : PUnit → sProp 𝕄) (h : ∀ a, Q a ⊢ R a) : runs c p Q ⊢ runs c p R :=
  wp_mono _ _ _ h

/-- The whole program of a device: from its share at the launch to its end, with nothing owed. -/
theorem sound (c : Dev nD) (W : Waits sig Unit) :
    iprop(Φ₀ m c ∗ owes (c : Thread nD τ) (O₀ c) W) ⊢ runs c prog fun _ => iprop(Φ₁ m c ∗ owing c 0) := by
  refine BIBase.Entails.trans ?_ (runs_fupd c prog fun _ => iprop(Φ₁ m c ∗ owing c 0))
  unfold Φ₀ start
  iintro ⟨⟨⟨⟨%K, #HR⟩, #HL, Hm, Hc, Ha, Hb, Ho⟩, HS⟩, HO⟩
  iapply (runs_prog m K c _)
  isplitr
  · unfold ctx; isplitr; · iexact HR
    iexact HL
  isplitl [HO]; · iexists W; iexact HO
  isplitl [Hm Hc Ha Hb Ho HS]
  · iapply (body_start m c)
    isplitl [Hm]; · iexact Hm
    isplitl [Hc]; · iexact Hc
    isplitl [Ha]; · iexact Ha
    isplitl [Hb]; · iexact Hb
    isplitl [Ho]; · iexact Ho
    iexact HS
  iintro HO HB
  ihave HB := (body_end m c) $$ HB
  icases HB with ⟨Hp, HA, HS⟩
  imod (close_cells m K c) $$ [Hp] with Hz
  · isplitr; · iexact HR
    iexact Hp
  imodintro
  unfold Φ₁
  isplitr [HO]
  · isplitl [Hz]; · iexact Hz
    isplitl [HA] <;> iassumption
  iexact HO

/-- A product over no windows is empty. -/
theorem noWindows (Φ : Fin 0 → sProp 𝕄) : bigSep Finset.univ Φ = iprop(emp) := by
  rw [show (Finset.univ : Finset (Fin 0)) = ∅ from rfl, BI.bigSep_empty]; rfl

set_option maxRecDepth 65536 in
/-- The launch's body meets its specification. -/
theorem body_obligation (c : Dev nD) : Pipeline.BodyObligation (dats (F := F) m 0 c) (defs₀ (F := F)) 𝒱₀ () Set.univ := fun t => by
  rw [fin_N0 t]
  show iprop(Φ₀ m c ∗ (dats m 0 c).owesAt () t0_0.castSucc ∗ _) ⊢ wp frame (wpE (defs₀ (F := F)) 𝒱₀ c none) Set.univ (bodyAt0 t0_0)
    (fun _ => iprop(Φ₁ m c ∗ (dats m 0 c).owesAt () t0_0.succ ∗ bigSep (Finset.univ : Finset (Fin 0)) _))
  rw [show bodyAt0 (F := F) t0_0 = prog from body_eq, noWindows]
  unfold Pipeline.Dat.owesAt Pipeline.owesWithin
  iintro ⟨HΦ, ⟨%W, %hW, HO⟩, -⟩
  iapply (show runs c prog (fun _ => iprop(Φ₁ m c ∗ owing c 0)) ⊢ _ from wp_mono _ _ _ fun _ => by
    iintro ⟨H1, ⟨%W, HO⟩⟩
    isplitl [H1]; · iexact H1
    isplitl [HO]
    · iexists W
      isplitr; · ipureintro; exact fun _ _ => Or.inl trivial
      iexact HO
    iempintro)
  iapply (sound m c W)
  isplitl [HΦ]; · iexact HΦ
  iexact HO

/-! ## The side conditions -/

/-- Owning a whole buffer at any contents. -/
theorem held_whole (c : Dev nD) (b : Ref sig .tc) :
    (held c (Memref.whole b) : sProp 𝕄) = iprop(∃ f : Buf (Elt F) ((c : Thread nD τ).loc b), ((c : Thread nD τ).loc b) ↦{fullShare} f) :=
  (Memref.isWhole_whole b).exists_owns_eq fullShare

/-- Owning the left operand is owning its buffer at its initial contents. -/
theorem own_argA (c : Dev nD) : (own c aH (argA m c) : sProp 𝕄) = (((c : Thread nD τ).loc main_arg0) ↦{fullShare} argA m c) := owns_whole _ _ _ _
/-- Owning the right operand is owning its buffer at its initial contents. -/
theorem own_argB (c : Dev nD) : (own c bH (argB m c) : sProp 𝕄) = (((c : Thread nD τ).loc main_arg1) ↦{fullShare} argB m c) := owns_whole _ _ _ _
/-- Owning the result is owning its buffer at the final contents. -/
theorem own_out (c : Dev nD) : (own c outH (outArr m c) : sProp 𝕄) = (((c : Thread nD τ).loc main_v1) ↦{fullShare} outArr m c) := owns_whole _ _ _ _

/-- A device's share of the initial memory and resources is what its program starts from. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start
  iintro ⟨⟨Ha, Hb, Ho⟩, HL, Hcr, -, HK, Hm⟩
  ihave Hcr := (creds (F := F) c) $$ Hcr
  imodintro
  isplitl
  · isplitl [HK]; · iexact HK
    isplitl [HL]; · iexact HL
    isplitl [Hm]; · iexact Hm
    isplitl [Hcr]; · iexact Hcr
    rw [held_whole, own_argA, own_argB]
    isplitl [Ha]; · iexact Ha
    isplitl [Hb]; · iexact Hb
    iexists _; iexact Ho
  · iempintro

/-- The launch's scratch buffers, listed. -/
theorem scratch_eq (c : Dev nD) : (Pipeline.scopedRest (Ix := Unit) (Name := ℕ) (U := UU) (Lvl := ℕ) (Val := Elt F) cfg0.spec c : sProp 𝕄) = scratch c := by
  rw [scopedRest0_eq]
  unfold scratch
  rw [← held_whole c cc0_scratch0, ← held_whole c cc0_scratch1, ← held_whole c cc0_scratch2, ← held_whole c cc0_scratch3, ← held_whole c cc0_scratch4,
    ← held_whole c cc0_scratch5, ← held_whole c cc0_scratch6, ← held_whole c cc0_scratch7]
  rfl

/-- What the launch gives a device is the body's precondition. -/
theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

/-- The body's postcondition gives the launch back its semaphores and scratch buffers, and keeps the arrays. -/
theorem last_exit (c : Dev nD) :
    (dats m 0 c).Φ (Fin.last cfg0.N) ⊢ iprop((unscopedSems0 c ∗ arrays m c) ∗ Pipeline.ownSems0 osem c ∗ Pipeline.scopedRest cfg0.spec c) := by
  rw [show (dats m 0 c).Φ (Fin.last cfg0.N) = Φ₁ m c from rfl, scratch_eq]
  unfold Φ₁
  rw [sems_eq]
  iintro ⟨⟨Hu, Ho⟩, HA, HS⟩
  isplitl [Hu HA]
  · isplitl [Hu] <;> iassumption
  isplitl [Ho] <;> iassumption

/-- What the final memory holds on device `c`. -/
def Final (c : Dev nD) (s : MemSt nD τ sig (Elt F)) : Prop :=
  s.mem ((c : Thread nD τ).loc main_arg0) = argA m c ∧ s.mem ((c : Thread nD τ).loc main_arg1) = argB m c
    ∧ s.mem ((c : Thread nD τ).loc main_v1) = outArr m c

/-- A buffer that is owned at `X` holds `X` in the machine's memory. -/
theorem read_one (c : Dev nD) (b : Ref sig .tc) (X : Buf (Elt F) ((c : Thread nD τ).loc b)) (s' : Phys nD τ sig (Elt F)) :
    iprop((((c : Thread nD τ).loc b) ↦{fullShare} X) ∗ SI s') ⊢ (iprop(⌜s'.mem.mem ((c : Thread nD τ).loc b) = X⌝ ∗ SI s') : sProp 𝕄) := by
  have h := pointsTo_read_all (Ix := Unit) (Name := ℕ) (U := UU) (Lvl := ℕ) (Finset.univ : Finset Unit) (fun _ => (c : Thread nD τ).loc b) (fun _ => X) s' fullShare
  rw [show (Finset.univ : Finset Unit) = {()} from rfl, bigSep_singleton] at h
  refine BIBase.Entails.trans h ?_
  iintro ⟨%h, H⟩
  isplitr; · ipureintro; exact h () (Finset.mem_singleton_self _)
  iexact H

/-- What a device owns at the end says what the machine's memory holds: operands unchanged, the result in place, counters at zero. -/
theorem read_end (c : Dev nD) (s' : Phys nD τ sig (Elt F)) :
    iprop((unscopedSems0 c ∗ arrays m c) ∗ emp ∗ SI s')
      ⊢ |={Set.univ}=> (iprop(⌜Final m c s'.mem ∧ ∀ sm : SemLoc sig, sm.isScoped .tc = false → s'.mem.sem ((c.tc : Thread nD τ), sm) = 0⌝ ∗ SI s') : sProp 𝕄) := by
  unfold arrays
  rw [own_argA, own_argB, own_out]
  iintro ⟨⟨Hu, Ha, Hb, Ho⟩, -, HSI⟩
  ihave H := (read_one c main_arg0 _ s') $$ [Ha HSI]
  · isplitl [Ha] <;> iassumption
  icases H with ⟨%ha, HSI⟩
  ihave H := (read_one c main_arg1 _ s') $$ [Hb HSI]
  · isplitl [Hb] <;> iassumption
  icases H with ⟨%hb, HSI⟩
  ihave H := (read_one c main_v1 _ s') $$ [Ho HSI]
  · isplitl [Ho] <;> iassumption
  icases H with ⟨%ho, HSI⟩
  imod (Pipeline.unscopedSems0_read (X := unscopedSems0 c) (c := c) fupd_intro s') $$ [Hu HSI] with ⟨%hu, HSI⟩
  · isplitl [Hu] <;> iassumption
  imodintro
  isplitr; · ipureintro; exact ⟨⟨ha, hb, ho⟩, hu⟩
  iexact HSI

/-- The launch's own waits are allowed. -/
theorem waits (c : Dev nD) : (levAts L lv : sProp 𝕄) ⊢ Pipeline.cellsWaits cfgs (dats m) () 0 c :=
  Pipeline.cellsWaits_intro cfgs (dats m) () 0 c fun w => w.elim0

/-! ## The run -/

set_option maxRecDepth 65536 in
/-- From any memory with zero counters, over any float values: every weakly fair execution of the four devices
    terminates, and ends with every device's operands unchanged, its result at `outArr` and every counter at zero. -/
theorem run_main (ρ : Dev nD → PrngReg) :
    θ_run defs (onTc (τ := τ) (main (F := F))) ⟨m, fun _ => 0, ρ⟩ (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ w => w.elim0) (hpf := fun _ k => k.elim0)
    (X := start m) (Y := fun c => iprop(unscopedSems0 c ∗ arrays m c)) (Z := fun _ => iprop(emp))
    (hX := start_intro m ρ) (hin := first_intro m) (hout := last_exit m)
    (QY := fun c s => Final m c s ∧ ∀ sm : SemLoc sig, sm.isScoped .tc = false → s.sem ((c.tc : Thread nD τ), sm) = 0)
    (hY := read_end m)
    (hQ := fun _ h hs => ⟨fun c => (h c).2.2.1, sem_eq_zero hs fun c => (h c).2.2.2⟩)

end Cert.Exchange

end
-- ==== Proof.Frames.lean ====
/-
# The frames

Each program runs to the end, leaves its arguments as they were and every counter at zero. The kernel as printed and its
idealization are one text, so the one run over any float values gives both.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Exchange

open Idealize.ShloMosaic Idealize.ShloMosaic.TcCoe Idealize.SL.Sem

/-- The idealized kernel's run, its value dropped. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The same run over machine floats: the kernel as printed. -/
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

/-- The reference has no semaphore at all. -/
theorem no_counter {α : Type} (s t : GSem Cert.ReferenceIdeal.nD Cert.ReferenceIdeal.τ Cert.ReferenceIdeal.sig → α) : s = t := by
  funext g
  obtain ⟨t, sm⟩ := g
  cases sm with
  | reg k => exact k.elim0
  | dma k => exact k.elim0

/-- The reference's run, its value dropped. -/
theorem frame_reference : Cert.quiescent_ReferenceIdeal := fun m ρ _ =>
  (θ_run Cert.ReferenceIdeal.defs _ _).mono (fun _ h => ⟨fun c => (h c).2, no_counter _ _⟩) (Cert.ReferenceIdeal.Value.run (F := Ideal) m ρ)

end Cert.Exchange

end
-- ==== Proof.Quantise.lean ====
/-
# What the peer reads of a block

A block of 256 × 1024 extended reals is sent as codes of eight bits and one scale. The scale is the greatest
magnitude of the block, at least 1e-30; a code is the entry times 127 over the scale, rounded to the nearest integer,
ties to even. Every code lies in [−127, 127], also when the block holds an infinity, so a conversion to eight bits
and one to thirty-two bits followed by a cut to eight give the same code.
-/
module

public import Idealize.ShloMosaic.PureOps.Ideal
public import Idealize.ShloMosaic.Lib.ValueIdxCore
public import Idealize.ShloMosaic.PureOps.Reduce

@[expose] public section

noncomputable section

namespace Cert.Exchange

open Idealize.ShloMosaic
open Idealize.ShloMosaic.ValueIdx

/-- The greatest magnitude of a block. -/
def most (x : Fin 256 → Fin 1024 → EReal) : EReal := ⨆ r, ⨆ l, max (x r l) (-x r l)

/-- The scale of a block. -/
def blockScale (x : Fin 256 → Fin 1024 → EReal) : EReal := max (most x) (Ideal.ofBits .f32 0x0DA24260#32)

/-- An entry of a block, scaled and rounded. -/
def rounded (x : Fin 256 → Fin 1024 → EReal) (r : Fin 256) (l : Fin 1024) : EReal :=
  Ideal.liftRound Ideal.roundHalfEven (x r l * Ideal.div (Ideal.ofBits .f32 0x42FE0000#32) (blockScale x))

/-- An entry of a block as the peer reads it: its code times the scale over 127. -/
def read (x : Fin 256 → Fin 1024 → EReal) (r : Fin 256) (l : Fin 1024) : EReal :=
  (((Ideal.fptosi 8 (rounded x r l)).toInt : ℝ) : EReal) * (blockScale x * Ideal.ofBits .f32 0x3C010204#32)

/-- The word 0x42FE0000 is 127. -/
theorem ofBits_127 : Ideal.ofBits .f32 0x42FE0000#32 = ((127 : ℝ) : EReal) := by
  simp [Ideal.ofBits, Ideal.ieee, -EReal.coe_mul]; norm_num

/-- The least scale is positive. -/
theorem ofBits_least_pos : 0 < Ideal.ofBits .f32 0x0DA24260#32 := by
  simp [Ideal.ofBits, Ideal.ieee, -EReal.coe_mul]

/-- The word 0xFF800000 is −∞. -/
theorem ofBits_neg_inf : Ideal.ofBits .f32 0xFF800000#32 = ⊥ := by
  simp [Ideal.ofBits, Ideal.ieee]

/-- A number in [−127, 127] rounds to an integer in [−127, 127]. -/
theorem roundHalfEven_range {t : ℝ} (h1 : -127 ≤ t) (h2 : t ≤ 127) :
    -127 ≤ Ideal.roundHalfEven t ∧ Ideal.roundHalfEven t ≤ 127 := by
  have hlo : (-127 : ℤ) ≤ ⌊t⌋ := Int.le_floor.mpr (by exact_mod_cast h1)
  have hhi : ⌊t⌋ ≤ (127 : ℤ) := by exact_mod_cast (Int.floor_le t).trans h2
  have hstep : 1 / 2 ≤ t - ⌊t⌋ → ⌊t⌋ + 1 ≤ (127 : ℤ) := fun h => by
    have : (⌊t⌋ : ℝ) < (127 : ℤ) := by push_cast; linarith
    exact Int.cast_lt.mp this
  unfold Ideal.roundHalfEven
  dsimp only
  split_ifs with ha hb hc
  · exact ⟨hlo, hhi⟩
  · exact ⟨by omega, hstep hb.le⟩
  · exact ⟨hlo, hhi⟩
  · exact ⟨by omega, hstep (not_lt.mp ha)⟩

/-- Every scaled and rounded entry is an integer in [−127, 127]. -/
theorem rounded_range (x : Fin 256 → Fin 1024 → EReal) (r : Fin 256) (l : Fin 1024) :
    ∃ z : ℤ, -127 ≤ z ∧ z ≤ 127 ∧ rounded x r l = ((z : ℝ) : EReal) := by
  have hm : max (x r l) (-x r l) ≤ blockScale x :=
    ((le_iSup (fun l => max (x r l) (-x r l)) l).trans (le_iSup (fun r => ⨆ l, max (x r l) (-x r l)) r)).trans (le_max_left _ _)
  have hp : x r l ≤ blockScale x := (le_max_left _ _).trans hm
  have hn : -x r l ≤ blockScale x := (le_max_right _ _).trans hm
  have h0 : 0 < blockScale x := ofBits_least_pos.trans_le (le_max_right _ _)
  unfold rounded
  rw [ofBits_127]
  generalize blockScale x = s at hp hn h0
  generalize x r l = p at hp hn
  unfold Ideal.div
  rw [if_neg h0.ne']
  induction s with
  | bot => exact absurd h0 (by simp)
  | top =>
    refine ⟨0, by norm_num, by norm_num, ?_⟩
    rw [EReal.inv_top, mul_zero, mul_zero]
    show Ideal.liftRound Ideal.roundHalfEven ((0 : ℝ) : EReal) = _
    rw [Ideal.liftRound_coe]
    norm_num [Ideal.roundHalfEven]
  | coe s =>
    have hs : 0 < s := by exact_mod_cast h0
    induction p with
    | bot => simp at hn
    | top => simp at hp
    | coe p =>
      have hp : p ≤ s := by exact_mod_cast hp
      have hn : -p ≤ s := by exact_mod_cast hn
      rw [← EReal.coe_inv, ← EReal.coe_mul, ← EReal.coe_mul, Ideal.liftRound_coe]
      have e : p * (127 * s⁻¹) = 127 * p / s := by field_simp
      obtain ⟨a, b⟩ := roundHalfEven_range (t := p * (127 * s⁻¹))
        (by rw [e, le_div_iff₀ hs]; linarith) (by rw [e, div_le_iff₀ hs]; linarith)
      exact ⟨_, a, b, rfl⟩

/-- An integer in [−127, 127] converted to eight bits is itself. -/
theorem toInt_fptosi_8 {z : ℤ} (h1 : -127 ≤ z) (h2 : z ≤ 127) : (Ideal.fptosi 8 ((z : ℝ) : EReal)).toInt = z := by
  unfold Ideal.fptosi
  rw [Ideal.toIntClamped_coe, Int.floor_intCast, Int.ceil_intCast, ite_self]
  norm_num
  rw [max_eq_right (by omega), min_eq_right (by omega), Int.bmod_eq_of_le] <;> omega

/-- Converted to thirty-two bits, cut to eight and widened again, it is itself too. -/
theorem toInt_fptosi_32 {z : ℤ} (h1 : -127 ≤ z) (h2 : z ≤ 127) :
    (((Ideal.fptosi 32 ((z : ℝ) : EReal)).setWidth 8).signExtend 32).toInt = z := by
  unfold Ideal.fptosi
  rw [Ideal.toIntClamped_coe, Int.floor_intCast, Int.ceil_intCast, ite_self]
  norm_num
  rw [max_eq_right (by omega), min_eq_right (by omega), BitVec.toInt_signExtend_of_le (by norm_num), BitVec.toInt_setWidth, BitVec.toNat_ofInt, Int.bmod_def]
  norm_num
  split_ifs <;> omega

/-- The greatest of some values, folded from −∞ over a list, is below a bound when each of them is. -/
theorem foldl_max_le {ι : Type} (f : ι → EReal) (l : List ι) (z b : EReal) :
    l.foldl (fun r i => max r (f i)) z ≤ b ↔ z ≤ b ∧ ∀ i ∈ l, f i ≤ b := by
  induction l generalizing z with
  | nil => simp
  | cons a l ih => rw [List.foldl_cons, ih, max_le_iff, List.forall_mem_cons, and_assoc]

/-- A fold of the greatest from −∞, over the indices that one result index comes from, is the greatest magnitude of a
    block whose entries are the values at those indices. -/
theorem foldl_eq_most {s : Shape} (P : s.Idx → Prop) [DecidablePred P] (f : s.Idx → EReal) (x : Fin 256 → Fin 1024 → EReal)
    (ix : Fin 256 → Fin 1024 → s.Idx) (hP : ∀ i, P i ↔ ∃ r l, ix r l = i) (hf : ∀ r l, f (ix r l) = max (x r l) (-x r l)) :
    (((List.finRange s.numel).map s.rowMajor.symm).filter fun i => P i).foldl (fun r i => max r (f i)) ⊥ = most x := by
  refine eq_of_forall_ge_iff fun b => ?_
  rw [foldl_max_le, most, iSup_le_iff]
  constructor
  · intro h r
    refine iSup_le fun l => ?_
    rw [← hf]
    refine h.2 _ (List.mem_filter.mpr ⟨List.mem_map.mpr ⟨s.rowMajor (ix r l), List.mem_finRange _, Equiv.symm_apply_apply _ _⟩, ?_⟩)
    exact decide_eq_true ((hP _).mpr ⟨r, l, rfl⟩)
  · refine fun h => ⟨bot_le, fun i hi => ?_⟩
    obtain ⟨r, l, rfl⟩ := (hP i).mp (of_decide_eq_true (List.mem_filter.mp hi).2)
    rw [hf]
    exact iSup_le_iff.mp (h r) l

/-- A kernel's maximum over the indices of a block is its greatest magnitude. -/
theorem multiReduction_eq_most {s t : Shape} {axes : List (Fin s.rank)} (src : FVec Ideal s .f32) (h : s.Reduces axes t)
    (hφ : FKind.Formats .f32) (hacc : 0xFF800000#32 = FKind.maximumf.neutral .f32 hφ) (j : t.Idx) (x : Fin 256 → Fin 1024 → EReal)
    (ix : Fin 256 → Fin 1024 → s.Idx) (hP : ∀ i, h.drop i = j ↔ ∃ r l, ix r l = i) (hf : ∀ r l, src (ix r l) = max (x r l) (-x r l)) :
    multiReduction .maximumf axes t src 0xFF800000#32 h hφ hacc j = most x := by
  rw [multiReduction_maximumf_eq_reduceFold, reduceFold_eq_foldl]
  show List.foldl (fun r i => max r (src i)) (Ideal.ofBits .f32 0xFF800000#32) _ = _
  rw [ofBits_neg_inf]
  exact foldl_eq_most _ src x ix hP hf

/-- The host's maximum over the indices of a block is its greatest magnitude. -/
theorem hostReduce_eq_most {s t u : Shape} {axes : List (Fin s.rank)} (src : FVec Ideal s .f32) (h : s.ReducesTo axes t)
    (hu : 0 < u.numel) (j : t.Idx) (x : Fin 256 → Fin 1024 → EReal)
    (ix : Fin 256 → Fin 1024 → s.Idx) (hP : ∀ i, h.drop i = j ↔ ∃ r l, ix r l = i) (hf : ∀ r l, src (ix r l) = max (x r l) (-x r l)) :
    Host.reduce FloatOps.maximumf src (constant (F := Ideal) u .f32 0xFF800000#32) h hu j = most x := by
  rw [Host.reduce_eq_foldl]
  show List.foldl (fun r i => max r (src i)) (Ideal.ofBits .f32 0xFF800000#32) _ = _
  rw [ofBits_neg_inf]
  exact foldl_eq_most _ src x ix hP hf

end Cert.Exchange

end
-- ==== Proof.KernelValue.lean ====
/-
# A block of the result, entry by entry

At the extended reals a block of the partial product is a sum over 1024 products; the block's codes and scale, read
back, are `read` of that block; a block of the result is the device's own partial product plus what it reads of the
peer's.
-/
module

public import proofs.«01_k».proof.Proof.Protocol
public import proofs.«01_k».proof.Proof.Quantise
public import Idealize.ShloMosaic.Lib.MatmulPlain
public import Idealize.ShloMosaic.Lib.KernelVsHost
public import Idealize.ShloMosaic.Lib.ValueIdx
public import Idealize.ShloMosaic.Lib.ValueLayout
public import Idealize.ShloMosaic.Lib.Pipeline.Value

@[expose] public section

noncomputable section

namespace Cert.Exchange

open Cert.KernelIdeal Cert.KernelIdeal.Gen
open Idealize.ShloMosaic
open Idealize.ShloMosaic.TcCoe
open Idealize.SL.Sem
open Idealize.ShloMosaic.ValueIdx
open scoped BigOperators

/-- The product of a row chunk and a column half, entry by entry. -/
def product (a : Vec Ideal S256x1024 .f32) (b : Vec Ideal S1024x1024 .f32) (r : Fin 256) (l : Fin 1024) : EReal :=
  ∑ k : Fin 1024, a (ix2 r k) * b (ix2 k l)

/-- The matrix unit's product of the two chunks is their product. -/
theorem pay3_apply (a : Vec Ideal S256x1024 .f32) (b : Vec Ideal S1024x1024 .f32) (r : Fin 256) (l : Fin 1024) :
    k0_pay3 (F := Ideal) a b (ix2 r l) = product a b r l := by
  show FloatOps.matmul (DotDims.plain 256 1024 1024) none (k0_pay1 (F := Ideal) a) (k0_pay2 (F := Ideal) b) (constant S256x1024 .f32 0x00000000#32) (ix2 r l) = _
  rw [Ideal.matmul_plain_apply, constant_apply, Ideal.ofBits_zero_f32, zero_add]
  rfl

/-- The one entry of a vector of one entry, cast to rank 3 and extracted. -/
theorem extract_one (v : FVec Ideal S1 .f32) :
    extractAt ![0, 0, 0] (shapeCast S1x1x1 v shapeCasts_S1_S1x1x1) inpos_S1x1x1_p0_0_0 = v (ix1 0) := by
  unfold extractAt
  exact shapeCast_apply v shapeCasts_S1_S1x1x1 _ (ix1 0) (by rw [Shape.rowMajor_val_three, Shape.rowMajor_val_one]; rfl)

/-- The scalar the kernel scales by is the block's scale. -/
theorem pay5_eq (a : Vec Ideal S256x1024 .f32) (b : Vec Ideal S1024x1024 .f32) :
    k0_pay5 (F := Ideal) a b = blockScale (product a b) := by
  unfold k0_pay5 blockScale
  dsimp only
  rw [extract_one, multiReduction_eq_most (shapeCast S1x256x1024 (absf (k0_pay3 (F := Ideal) a b)) shapeCasts_S256x1024_S1x256x1024) reduces_S1x256x1024_S1
    (.inl rfl) rfl (ix1 0) (product a b) (fun r l => ix3 0 r l) (fun i => ⟨fun _ => ⟨i 1, i 2, ?_⟩, fun _ => ?_⟩) fun r l => ?_]
  · rfl
  · funext d
    match d with
    | ⟨0, _⟩ => exact Subsingleton.elim (α := Fin 1) _ _
    | ⟨1, _⟩ => rfl
    | ⟨2, _⟩ => rfl
  · funext d
    match d with
    | ⟨0, _⟩ => exact Subsingleton.elim (α := Fin 1) _ _
  · rw [shapeCast_ab_1ab_apply]
    show max (k0_pay3 (F := Ideal) a b (ix2 r l)) (-k0_pay3 (F := Ideal) a b (ix2 r l)) = _
    rw [pay3_apply]

/-- The kernel's codes of a block `p` scaled by `s`, entry by entry. -/
theorem pay7_apply (p : FVec Ideal S256x1024 .f32) (s d : EReal) (x : S256x1024.Idx) :
    k0_pay7 (F := Ideal) p s d x = Ideal.fptosi 8 (Ideal.liftRound Ideal.roundHalfEven (p x * Ideal.div d s)) := by
  unfold k0_pay7
  rw [shapeCast_self]
  rfl

/-- The kernel's result block from its own product `p`, the codes `q` and the scale `t` it received, entry by entry. -/
theorem pay97_apply (p : FVec Ideal S256x1024 .f32) (q : IVec S256x1024 8) (t : EReal) (x : S256x1024.Idx) :
    k0_pay97 (F := Ideal) p q (fun _ => t) x = p x + (((q x).toInt : ℝ) : EReal) * t := by
  unfold k0_pay97
  rw [shapeCast_self]
  rfl

/-- The codes of a block are its scaled and rounded entries in eight bits. -/
theorem codes_apply (a : Vec Ideal S256x1024 .f32) (b : Vec Ideal S1024x1024 .f32) (r : Fin 256) (l : Fin 1024) :
    codes (F := Ideal) a b (ix2 r l) = Ideal.fptosi 8 (rounded (product a b) r l) := by
  unfold codes
  rw [pay7_apply, pay3_apply, pay5_eq]
  rfl

/-- Every entry of the scale row is the kernel's scalar over 127. -/
theorem row_apply (s : EReal) (x : S1x128.Idx) :
    shapeCast S1x128 (broadcast S128 s) shapeCasts_S128_S1x128 x = s := rfl

/-- The scale row's first entry is the block's scale over 127. -/
theorem scale_apply (a : Vec Ideal S256x1024 .f32) (b : Vec Ideal S1024x1024 .f32) :
    k0_pay6 (F := Ideal) a b (ix2 0 0) = blockScale (product a b) * Ideal.ofBits .f32 0x3C010204#32 := by
  unfold k0_pay6
  rw [pay5_eq]
  exact row_apply _ _

variable (m : (ℓ : Loc nD τ sig) → Buf (Elt Ideal) ℓ)

/-- Block `i` of device `c`'s partial product. -/
abbrev partialOf (c : Dev nD) (i : Fin 16) : Fin 256 → Fin 1024 → EReal :=
  product (chunkA m c (rowOf i)) (chunkB m c (halfOf i))

/-- A block of the result is the device's own partial product plus what it reads of the peer's. -/
theorem outBlk_apply (c : Dev nD) (i : Fin 16) (r : Fin 256) (l : Fin 1024) :
    outBlk m c i (ix2 r l) = partialOf m c i r l + read (partialOf m (peer c) i) r l := by
  unfold outBlk scale1
  rw [pay97_apply]
  unfold partialBlk codesBlk scaleRow k0_pay4
  rw [codes_apply, scale_apply, shapeCast_self, pay3_apply]
  rfl

end Cert.Exchange

end
-- ==== Proof.ReferenceValue.lean ====
/-
# The reference, entry by entry

The reference's two partial products are sums over 1024 products; what it exchanges of a partial product `p` is, at
every entry, `read` of the 256 × 1024 block of `p` the entry lies in. Its result has two column halves: half `y` is
partial product `y` plus what is read of the other.
-/
module

public import proofs.«01_k».proof.Proof.Gen.ReferenceIdeal.Run
public import proofs.«01_k».proof.Proof.Quantise
public import Idealize.ShloMosaic.Lib.StackMember
public import Idealize.ShloMosaic.Lib.IdealHost
public import Idealize.ShloMosaic.Lib.ValueIdx
public import Idealize.ShloMosaic.Lib.ValueLayout
public import Idealize.ShloMosaic.Lib.Pipeline.Value

@[expose] public section

noncomputable section

namespace Cert.Exchange.Reference

open Cert.ReferenceIdeal Cert.ReferenceIdeal.Gen
open Idealize.ShloMosaic
open Idealize.ShloMosaic.ValueIdx
open Cert.Exchange
open scoped BigOperators

/-- The partial product over the 1024 columns of `A`, and rows of `B`, that start at `o`. -/
def part (A : FVec Ideal S4096x2048 .f32) (B : FVec Ideal S2048x2048 .f32) (o : Nat) (ho : o + 1024 ≤ 2048)
    (R : Fin 4096) (L : Fin 2048) : EReal :=
  ∑ k : Fin 1024, A (ix2 R ⟨o + k.val, by omega⟩) * B (ix2 ⟨o + k.val, by omega⟩ L)

/-- The same as the reference writes it: the host's product of the two slices that start at `o`. -/
def partArr (A : FVec Ideal S4096x2048 .f32) (B : FVec Ideal S2048x2048 .f32) (o : Nat)
    (hA : S4096x2048.Slices ![0, o] S4096x1024) (hB : S2048x2048.Slices ![o, 0] S1024x2048) : FVec Ideal S4096x2048 .f32 :=
  Host.dotGeneral dot_S4096x1024_S1024x2048_S4096x2048_1_0_0_1_n_n none (extractStridedSlice S4096x1024 ![0, o] A hA)
    (extractStridedSlice S1024x2048 ![o, 0] B hB)

/-- The host's product of the two slices that start at `o` is the partial product, entry by entry. -/
theorem partArr_apply (A : FVec Ideal S4096x2048 .f32) (B : FVec Ideal S2048x2048 .f32) (o : Nat) (ho : o + 1024 ≤ 2048)
    (hA : S4096x2048.Slices ![0, o] S4096x1024) (hB : S2048x2048.Slices ![o, 0] S1024x2048) (R : Fin 4096) (L : Fin 2048) :
    partArr A B o hA hB (ix2 R L) = part A B o ho R L := by
  refine (StackMember.dotGeneral_plain_apply (m := 4096) (n := 2048) (k := 1024) none (extractStridedSlice S4096x1024 ![0, o] A hA)
      (extractStridedSlice S1024x2048 ![o, 0] B hB) R L).trans ?_
  refine Finset.sum_congr rfl fun k _ => ?_
  rw [slice2_axis1_apply o A hA R k ⟨o + k.val, by omega⟩ rfl, slice2_axis0_apply o B hB k L ⟨o + k.val, by omega⟩ rfl]

/-- The block of `p` at block row `a` and column half `h`. -/
def blockAt (p : FVec Ideal S4096x2048 .f32) (a : Fin 16) (h : Fin 2) (r : Fin 256) (l : Fin 1024) : EReal :=
  p (ix2 ⟨256 * a.val + r.val, by omega⟩ ⟨1024 * h.val + l.val, by omega⟩)

/-- `p` cut into blocks: an entry of a block is an entry of `p`. -/
theorem cut_apply (p : FVec Ideal S4096x2048 .f32) (a : Fin 16) (r : Fin 256) (h : Fin 2) (l : Fin 1024) :
    shapeCast S16x256x2x1024 p shapeCasts_S4096x2048_S16x256x2x1024 (ix4 a r h l) = blockAt p a h r l := by
  refine shapeCast_apply p _ _ (ix2 ⟨256 * a.val + r.val, by omega⟩ ⟨1024 * h.val + l.val, by omega⟩) ?_
  rw [Shape.rowMajor_val_two, Shape.rowMajor_val_four]
  show (256 * a.val + r.val) * 2048 + (1024 * h.val + l.val) = ((a.val * 256 + r.val) * 2 + h.val) * 1024 + l.val
  omega

/-- The scales of all blocks of `p`, cut into blocks as `t`. -/
def scales (t : FVec Ideal S16x256x2x1024 .f32) : FVec Ideal S16x1x2x1 .f32 :=
  maximumf (broadcastInDim S16x1x2x1 ![0, 2] bcast_S16x2_S16x1x2x1_0_2
      (Host.reduce FloatOps.maximumf (Host.absf t) (constant S_ .f32 0xFF800000#32) reducesTo_S16x256x2x1024_S16x2_d1_3 h_S_))
    (broadcastInDim S16x1x2x1 ![] bcast_S_S16x1x2x1 (constant S_ .f32 0x0DA24260#32))

/-- What the peer reads of a partial product `p`, as the reference writes it. -/
def exchanged (p : FVec Ideal S4096x2048 .f32) : FVec Ideal S4096x2048 .f32 :=
  shapeCast _ (mulf (sitofp .f32 (extsi 32 (trunci 8 (fptosi 32 (Host.roundeven (mulf
      (shapeCast _ p shapeCasts_S4096x2048_S16x256x2x1024)
      (broadcastInDim S16x256x2x1024 ![0, 1, 2, 3] bcast_S16x1x2x1_S16x256x2x1024_0_1_2_3
        (Host.divf (broadcastInDim S16x1x2x1 ![] bcast_S_S16x1x2x1 (constant S_ .f32 0x42FE0000#32))
          (scales (shapeCast _ p shapeCasts_S4096x2048_S16x256x2x1024))))))) natLt_8_32) natLt_8_32))
      (broadcastInDim S16x256x2x1024 ![0, 1, 2, 3] bcast_S16x1x2x1_S16x256x2x1024_0_1_2_3
        (mulf (scales (shapeCast _ p shapeCasts_S4096x2048_S16x256x2x1024))
          (broadcastInDim S16x1x2x1 ![] bcast_S_S16x1x2x1 (constant S_ .f32 0x3C010204#32)))))
    shapeCasts_S16x256x2x1024_S4096x2048

/-- The indices that the maximum over a block runs over are the entries of the block. -/
theorem drop_iff (i : S16x256x2x1024.Idx) (a : Fin 16) (h : Fin 2) :
    reducesTo_S16x256x2x1024_S16x2_d1_3.drop i = ix2 a h ↔ ∃ r l, (ix4 a r h l : S16x256x2x1024.Idx) = i := by
  have h0 := reducesTo_S16x256x2x1024_S16x2_d1_3.drop_apply_val_of_eq i 0 0
  have h1 := reducesTo_S16x256x2x1024_S16x2_d1_3.drop_apply_val_of_eq i 1 2
  constructor
  · intro e
    rw [e] at h0 h1
    refine ⟨i 1, i 3, ?_⟩
    funext d
    match d with
    | ⟨0, _⟩ => exact Fin.ext h0
    | ⟨1, _⟩ => rfl
    | ⟨2, _⟩ => exact Fin.ext h1
    | ⟨3, _⟩ => rfl
  · rintro ⟨r, l, rfl⟩
    funext d
    match d with
    | ⟨0, _⟩ => exact Fin.ext h0
    | ⟨1, _⟩ => exact Fin.ext h1

/-- The scale of a block in the reference is the block's scale. -/
theorem scales_apply (p : FVec Ideal S4096x2048 .f32) (a : Fin 16) (h : Fin 2) :
    scales (shapeCast S16x256x2x1024 p shapeCasts_S4096x2048_S16x256x2x1024) (ix4 a 0 h 0) = blockScale (blockAt p a h) := by
  unfold scales blockScale
  rw [maximumf_apply, broadcastInDim_scalar_apply, constant_apply,
    broadcastInDim_apply _ bcast_S16x2_S16x1x2x1_0_2 _ (ix4 a 0 h 0) (ix2 a h) (fun d => by
      match d with
      | ⟨0, _⟩ => rfl
      | ⟨1, _⟩ => rfl),
    hostReduce_eq_most _ _ _ (ix2 a h) (blockAt p a h) (fun r l => ix4 a r h l) (fun i => drop_iff i a h) (fun r l => ?_)]
  rw [← cut_apply]
  rfl

/-- An entry scaled, rounded, converted to 32 bits, cut to 8 and extended again is its code in eight bits. -/
theorem code_eq (x : Fin 256 → Fin 1024 → EReal) (r : Fin 256) (l : Fin 1024) :
    (((Ideal.fptosi 32 (rounded x r l)).setWidth 8).signExtend 32).toInt = (Ideal.fptosi 8 (rounded x r l)).toInt := by
  obtain ⟨z, h1, h2, e⟩ := rounded_range x r l
  rw [e, toInt_fptosi_32 h1 h2, toInt_fptosi_8 h1 h2]

/-- A scale of every block, copied to all entries of the block. -/
theorem spread_apply (s : FVec Ideal S16x1x2x1 .f32) (a : Fin 16) (r : Fin 256) (h : Fin 2) (l : Fin 1024) :
    broadcastInDim S16x256x2x1024 ![0, 1, 2, 3] bcast_S16x1x2x1_S16x256x2x1024_0_1_2_3 s (ix4 a r h l) = s (ix4 a 0 h 0) :=
  broadcastInDim_apply _ _ s _ _ (fun d => by
    match d with
    | ⟨0, _⟩ => rfl
    | ⟨1, _⟩ => rfl
    | ⟨2, _⟩ => rfl
    | ⟨3, _⟩ => rfl)

/-- The reference's code of an entry: rounded, converted to 32 bits, cut to 8, extended again and read as a number. -/
theorem chain_apply {s : Shape} (u : FVec Ideal s .f32) (x : s.Idx) :
    sitofp (F := Ideal) .f32 (extsi 32 (trunci 8 (fptosi 32 (Host.roundeven u)) natLt_8_32) natLt_8_32) x
      = ((((Ideal.fptosi 32 (Ideal.liftRound Ideal.roundHalfEven (u x))).setWidth 8).signExtend 32).toInt : ℝ) := rfl

/-- What the reference exchanges is, at every entry, what is read of the entry's block. -/
theorem exchanged_apply (p : FVec Ideal S4096x2048 .f32) (a : Fin 16) (r : Fin 256) (h : Fin 2) (l : Fin 1024) (R : Fin 4096) (L : Fin 2048)
    (hR : R.val = 256 * a.val + r.val) (hL : L.val = 1024 * h.val + l.val) :
    exchanged p (ix2 R L) = read (blockAt p a h) r l := by
  unfold exchanged
  rw [shapeCast_apply _ shapeCasts_S16x256x2x1024_S4096x2048 (ix2 R L) (ix4 a r h l) (by
    rw [Shape.rowMajor_val_two, Shape.rowMajor_val_four]
    show ((a.val * 256 + r.val) * 2 + h.val) * 1024 + l.val = R.val * 2048 + L.val
    omega)]
  rw [mulf_apply, spread_apply, mulf_apply, scales_apply, broadcastInDim_scalar_apply, constant_apply, chain_apply,
    mulf_apply, cut_apply, spread_apply, hostDivf_apply, scales_apply, broadcastInDim_scalar_apply, constant_apply]
  unfold read
  rw [← code_eq]
  unfold rounded
  rfl

/-- The reference's result from its two partial products. -/
def joined (p q : FVec Ideal S4096x2048 .f32) : FVec Ideal S4096x4096 .bf16 :=
  truncf .bf16 (concatenate S4096x4096 1 [⟨S4096x2048, addf p (exchanged q)⟩, ⟨S4096x2048, addf q (exchanged p)⟩]
    concatenates_S4096x2048_S4096x2048_S4096x4096_d1) bitsLt_bf16_f32

/-- The left column half of the result. -/
theorem joined_left (p q : FVec Ideal S4096x2048 .f32) (R : Fin 4096) (L : Fin 2048) (C : Fin 4096) (hC : C.val = L.val) :
    joined p q (ix2 R C) = p (ix2 R L) + exchanged q (ix2 R L) := by
  unfold joined
  rw [truncf_apply, concatenate_pair_apply_left (s₁ := S4096x2048) (s₂ := S4096x2048) 1 _ _ _ (ix2 R C) rfl (ix2 R L) (fun b => by
    match b with
    | ⟨0, _⟩ => rfl
    | ⟨1, _⟩ => exact hC.symm)]
  rfl

/-- The right column half of the result. -/
theorem joined_right (p q : FVec Ideal S4096x2048 .f32) (R : Fin 4096) (L : Fin 2048) (C : Fin 4096) (hC : C.val = 2048 + L.val) :
    joined p q (ix2 R C) = q (ix2 R L) + exchanged p (ix2 R L) := by
  unfold joined
  rw [truncf_apply, concatenate_pair_apply_right (s₁ := S4096x2048) (s₂ := S4096x2048) 1 _ _ _ (ix2 R C) rfl rfl (ix2 R L) (fun b hb => by
    match b with
    | ⟨0, _⟩ => rfl
    | ⟨1, _⟩ => exact absurd rfl hb) (by show L.val + 2048 = C.val; omega)]
  rfl

/-- The reference's result is its two partial products joined. -/
theorem result_eq (m : (ℓ : Loc nD τ sig) → Buf (Elt Ideal) ℓ) (c : Dev nD) :
    Value.res_out0 m c = joined
      (partArr (m ((c.tc : Thread nD τ).loc main_arg0)) (m ((c.tc : Thread nD τ).loc main_arg1)) 0
        slices_S4096x2048_S4096x1024_0_0 slices_S2048x2048_S1024x2048_0_0)
      (partArr (m ((c.tc : Thread nD τ).loc main_arg0)) (m ((c.tc : Thread nD τ).loc main_arg1)) 1024
        slices_S4096x2048_S4096x1024_0_1024 slices_S2048x2048_S1024x2048_1024_0) := by
  unfold Value.res_out0 Value.res_main_v49 joined exchanged scales partArr
  rfl

end Cert.Exchange.Reference

end
-- ==== Proof.Algebra.lean ====
/-
# The kernel computes what the reference says

Device `c = (x, y)` of the 2 × 2 mesh holds row half `x`, column half `y` of `A` and row half `y` of `B`. Its block `i` of the
partial product is a block of the reference's partial product `y`, its peer's a block of the other, so its result is its
part of the reference's result, entry by entry.
-/
module

public import proofs.«01_k».proof.Defs
public import proofs.«01_k».proof.Proof.Launch
public import proofs.«01_k».proof.Proof.KernelValue
public import proofs.«01_k».proof.Proof.ReferenceValue

@[expose] public section

noncomputable section

namespace Cert.Exchange

open Cert.KernelIdeal Cert.KernelIdeal.Gen
open Idealize.ShloMosaic
open Idealize.ShloMosaic.TcCoe
open Idealize.SL.Sem
open Idealize.ShloMosaic.ValueIdx
open Reference
open scoped BigOperators

/-- The peer lies in the same row of the mesh. -/
theorem peer_div (c : Dev nD) : (peer c).val / 2 = c.val / 2 := by revert c; decide +kernel

/-- The peer lies in the other column of the mesh. -/
theorem peer_mod (c : Dev nD) : (peer c).val % 2 = 1 - c.val % 2 := by revert c; decide +kernel

variable (m : (ℓ : Loc nD τ sig) → Buf (Elt Ideal) ℓ)
variable (A : FVec Ideal Cert.ReferenceIdeal.S4096x2048 .f32) (B : FVec Ideal Cert.ReferenceIdeal.S2048x2048 .f32)

/-- Every device holds its part of the whole operands. -/
def Split : Prop := ∀ c : Dev nD,
  argA m c = Layout.blockN ⟨2, ![2048, 1024]⟩ ⟨2, ![4096, 2048]⟩ (Layout.meshBlock [2, 2] ![[0], [1]] c) A
  ∧ argB m c = Layout.blockN ⟨2, ![1024, 2048]⟩ ⟨2, ![2048, 2048]⟩ (Layout.meshBlock [2, 2] ![[1], []] c) B

variable {m A B}

/-- An entry of a device's left operand is an entry of the whole. -/
theorem argA_apply (h : Split m A B) (c : Dev nD) (j : S2048x1024.Idx) (R : Fin 4096) (K : Fin 2048)
    (hR : R.val = 2048 * (c.val / 2) + (j 0).val) (hK : K.val = 1024 * (c.val % 2) + (j 1).val) :
    argA m c j = A (ix2 R K) := by
  have hc : c.val < 4 := c.isLt
  rw [(h c).1, Layout.blockN_apply]
  refine congrArg A (funext fun d => Fin.ext ?_)
  rw [Layout.TilesN.idx_val]
  match d with
  | ⟨0, _⟩ =>
    show (c.val / 2 % 2 * 1 + 0) * 2048 + (j 0).val = R.val
    omega
  | ⟨1, _⟩ =>
    show (c.val / 1 % 2 * 1 + 0) * 1024 + (j 1).val = K.val
    omega

/-- An entry of a device's right operand is an entry of the whole. -/
theorem argB_apply (h : Split m A B) (c : Dev nD) (j : S1024x2048.Idx) (K L : Fin 2048)
    (hK : K.val = 1024 * (c.val % 2) + (j 0).val) (hL : L.val = (j 1).val) :
    argB m c j = B (ix2 K L) := by
  rw [(h c).2, Layout.blockN_apply]
  refine congrArg B (funext fun d => Fin.ext ?_)
  rw [Layout.TilesN.idx_val]
  match d with
  | ⟨0, _⟩ =>
    show (c.val / 1 % 2 * 1 + 0) * 1024 + (j 0).val = K.val
    omega
  | ⟨1, _⟩ =>
    show 0 * 2048 + (j 1).val = L.val
    omega

/-- The block row of the whole that a device's block `i` lies in. -/
def rowAt (c : Dev nD) (i : Fin 16) : Fin 16 := ⟨8 * (c.val / 2) + i.val / 2, by have : c.val < 4 := c.isLt; omega⟩

/-- A block of a device's partial product is a block of the reference's. -/
theorem partial_eq (h : Split m A B) (c : Dev nD) (i : Fin 16) (o : Nat) (ho : o + 1024 ≤ 2048) (hoc : o = 1024 * (c.val % 2))
    (p : FVec Ideal Cert.ReferenceIdeal.S4096x2048 .f32) (hp : ∀ R L, p (ix2 R L) = part A B o ho R L) :
    partialOf m c i = blockAt p (rowAt c i) (halfOf i) := by
  funext r l
  unfold blockAt
  rw [hp]
  refine Finset.sum_congr rfl fun k _ => ?_
  refine congrArg₂ (· * ·) (argA_apply h c _ _ _ ?_ ?_) (argB_apply h c _ _ _ ?_ ?_)
  · show 256 * (8 * (c.val / 2) + i.val / 2) + r.val = 2048 * (c.val / 2) + (256 * (i.val / 2) + 1 * r.val)
    omega
  · show o + k.val = 1024 * (c.val % 2) + (0 + 1 * k.val)
    omega
  · show o + k.val = 1024 * (c.val % 2) + (0 + 1 * k.val)
    omega
  · show 1024 * (i.val % 2) + l.val = 1024 * (i.val % 2) + 1 * l.val
    omega

/-- An entry of a device's result: its own partial product there plus what is read of the other. -/
theorem outArr_apply (h : Split m A B) (c : Dev nD) (x : S2048x2048.Idx) (o o' : Nat) (ho : o + 1024 ≤ 2048) (ho' : o' + 1024 ≤ 2048)
    (hoc : o = 1024 * (c.val % 2)) (hoc' : o' = 1024 * ((peer c).val % 2))
    (p q : FVec Ideal Cert.ReferenceIdeal.S4096x2048 .f32)
    (hp : ∀ R L, p (ix2 R L) = part A B o ho R L) (hq : ∀ R L, q (ix2 R L) = part A B o' ho' R L)
    (R : Fin 4096) (L : Fin 2048) (hR : R.val = 2048 * (c.val / 2) + (x 0).val) (hL : L.val = (x 1).val) :
    outArr m c x = p (ix2 R L) + exchanged q (ix2 R L) := by
  have h0 : (x 0).val < 2048 := (x 0).isLt
  have h1 : (x 1).val < 2048 := (x 1).isLt
  have hrow : rowAt (peer c) (blockOf x) = rowAt c (blockOf x) := Fin.ext (by
    show 8 * ((peer c).val / 2) + _ = 8 * (c.val / 2) + _
    rw [peer_div])
  have eR : R.val = 256 * (rowAt c (blockOf x)).val + (x 0).val % 256 := by
    show R.val = 256 * (8 * (c.val / 2) + (2 * ((x 0).val / 256) + (x 1).val / 1024) / 2) + (x 0).val % 256
    omega
  have eL : L.val = 1024 * (halfOf (blockOf x)).val + (x 1).val % 1024 := by
    show L.val = 1024 * ((2 * ((x 0).val / 256) + (x 1).val / 1024) % 2) + (x 1).val % 1024
    omega
  unfold outArr within
  rw [outBlk_apply, partial_eq h c _ o ho hoc p hp, partial_eq h (peer c) _ o' ho' hoc' q hq, hrow,
    exchanged_apply q (rowAt c (blockOf x)) ⟨(x 0).val % 256, Nat.mod_lt _ (by decide)⟩ (halfOf (blockOf x))
      ⟨(x 1).val % 1024, Nat.mod_lt _ (by decide)⟩ R L eR eL]
  refine congrArg (· + _) ?_
  unfold blockAt
  exact congrArg p (congrArg₂ ix2 (Fin.ext eR.symm) (Fin.ext eL.symm))

/-- Every device ends holding its part of the joined result. -/
theorem outArr_eq (h : Split m A B) (c : Dev nD) (p q : FVec Ideal Cert.ReferenceIdeal.S4096x2048 .f32)
    (hp : ∀ R L, p (ix2 R L) = part A B 0 (by decide) R L) (hq : ∀ R L, q (ix2 R L) = part A B 1024 (by decide) R L) :
    outArr m c = Layout.blockN ⟨2, ![2048, 2048]⟩ ⟨2, ![4096, 4096]⟩ (Layout.meshBlock [2, 2] ![[0], [1]] c) (joined p q) := by
  funext x
  have hc : c.val < 4 := c.isLt
  have h0 : (x 0).val < 2048 := (x 0).isLt
  have h1 : (x 1).val < 2048 := (x 1).isLt
  have hpm := peer_mod c
  let R : Fin 4096 := ⟨2048 * (c.val / 2) + (x 0).val, by omega⟩
  let C : Fin 4096 := ⟨2048 * (c.val % 2) + (x 1).val, by omega⟩
  have e : (Layout.blockN ⟨2, ![2048, 2048]⟩ ⟨2, ![4096, 4096]⟩ (Layout.meshBlock [2, 2] ![[0], [1]] c) (joined p q) : S2048x2048.Idx → EReal) x = joined p q (ix2 R C) := by
    rw [Layout.blockN_apply]
    refine congrArg (joined p q) (funext fun d => Fin.ext ?_)
    rw [Layout.TilesN.idx_val]
    match d with
    | ⟨0, _⟩ =>
      show (c.val / 2 % 2 * 1 + 0) * 2048 + (x 0).val = 2048 * (c.val / 2) + (x 0).val
      omega
    | ⟨1, _⟩ =>
      show (c.val / 1 % 2 * 1 + 0) * 2048 + (x 1).val = 2048 * (c.val % 2) + (x 1).val
      omega
  rw [e]
  rcases Nat.mod_two_eq_zero_or_one c.val with hy | hy
  · rw [joined_left p q R ⟨(x 1).val, h1⟩ C (by show 2048 * (c.val % 2) + (x 1).val = (x 1).val; omega)]
    exact outArr_apply h c x 0 1024 (by decide) (by decide) (by omega) (by omega) p q hp hq R ⟨(x 1).val, h1⟩ rfl rfl
  · rw [joined_right p q R ⟨(x 1).val, h1⟩ C (by show 2048 * (c.val % 2) + (x 1).val = 2048 + (x 1).val; omega)]
    exact outArr_apply h c x 1024 0 (by decide) (by decide) (by omega) (by omega) q p hq hp R ⟨(x 1).val, h1⟩ rfl rfl

/-- Run on its parts of the operands, the kernel leaves every device its part of the reference's result. -/
theorem algebraic : Cert.algebraic_KernelIdeal_ReferenceIdeal := fun m g m' g' _ hargs => by
  have hs : Split m (m' (((0 : Dev Cert.ReferenceIdeal.nD).tc : Thread _ _).loc Cert.ReferenceIdeal.main_arg0))
      (m' (((0 : Dev Cert.ReferenceIdeal.nD).tc : Thread _ _).loc Cert.ReferenceIdeal.main_arg1)) := hargs
  refine ⟨Cert.ReferenceIdeal.Value.res_out0 m' 0, ?_, ?_⟩
  · refine (θ_run Cert.KernelIdeal.defs _ _).mono (fun _ h c => ⟨(h.1 c).2.2.trans ?_, (h.1 c).1, (h.1 c).2.1⟩) (run_main (F := Ideal) m g)
    rw [result_eq]
    exact outArr_eq hs c _ _ (fun R L => partArr_apply _ _ 0 _ _ _ R L) (fun R L => partArr_apply _ _ 1024 _ _ _ R L)
  · exact (θ_run Cert.ReferenceIdeal.defs _ _).mono (fun _ h => h 0) (Cert.ReferenceIdeal.Value.run (F := Ideal) m' g')

end Cert.Exchange

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebra

@[expose] public section

noncomputable section

namespace Cert.Proof

open Idealize.ShloMosaic Idealize.SL.Sem Cert.Kernel Cert.Exchange

/-- Everything claimed: the three frames, the idealization, and that the kernel computes what the reference says. -/
theorem claim : Cert.Claim := ⟨Cert.Kernel.Gen.facts, Cert.KernelIdeal.Gen.facts, Cert.ReferenceIdeal.Gen.facts, frame_kernel, frame_ideal, frame_reference, trivial, algebraic⟩

end Cert.Proof

end
